-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2 : Shape := ⟨2, ![1, 2]⟩
abbrev S2x256x176x640 : Shape := ⟨4, ![2, 256, 176, 640]⟩
abbrev S3x3x640x1280 : Shape := ⟨4, ![3, 3, 640, 1280]⟩
abbrev S1280 : Shape := ⟨1, ![1280]⟩
abbrev S3x3x640x20 : Shape := ⟨4, ![3, 3, 640, 20]⟩
abbrev S20x1280 : Shape := ⟨2, ![20, 1280]⟩
abbrev S90112x640 : Shape := ⟨2, ![90112, 640]⟩
abbrev S9x640x20 : Shape := ⟨3, ![9, 640, 20]⟩
abbrev S6x640x20 : Shape := ⟨3, ![6, 640, 20]⟩
abbrev S640x6x20 : Shape := ⟨3, ![640, 6, 20]⟩
abbrev S640x120 : Shape := ⟨2, ![640, 120]⟩
abbrev S_ : Shape := ⟨0, ![]⟩
abbrev S640x128 : Shape := ⟨2, ![640, 128]⟩
abbrev S3x640x20 : Shape := ⟨3, ![3, 640, 20]⟩
abbrev S640x3x20 : Shape := ⟨3, ![640, 3, 20]⟩
abbrev S640x60 : Shape := ⟨2, ![640, 60]⟩
abbrev S640x256 : Shape := ⟨2, ![640, 256]⟩
abbrev S128x1280 : Shape := ⟨2, ![128, 1280]⟩
abbrev S5760x1280 : Shape := ⟨2, ![5760, 1280]⟩
abbrev S1x1280 : Shape := ⟨2, ![1, 1280]⟩
abbrev S90112x1280 : Shape := ⟨2, ![90112, 1280]⟩
abbrev S1408x640 : Shape := ⟨2, ![1408, 640]⟩
abbrev S1408x1280 : Shape := ⟨2, ![1408, 1280]⟩
abbrev S3x3x5x1472x128 : Shape := ⟨5, ![3, 3, 5, 1472, 128]⟩
abbrev S3x2x1424x128 : Shape := ⟨4, ![3, 2, 1424, 128]⟩
abbrev S1x1 : Shape := ⟨2, ![1, 1]⟩
abbrev S1408x128 : Shape := ⟨2, ![1408, 128]⟩
abbrev S1x1x1x1408x128 : Shape := ⟨5, ![1, 1, 1, 1408, 128]⟩
abbrev S32x128 : Shape := ⟨2, ![32, 128]⟩
abbrev S1x1x1x32x128 : Shape := ⟨5, ![1, 1, 1, 32, 128]⟩
abbrev S1x128 : Shape := ⟨2, ![1, 128]⟩
abbrev S1407x128 : Shape := ⟨2, ![1407, 128]⟩
abbrev S1408x256 : Shape := ⟨2, ![1408, 256]⟩
abbrev S1x1x1408x128 : Shape := ⟨4, ![1, 1, 1408, 128]⟩
abbrev S1x1x1x176x128 : Shape := ⟨5, ![1, 1, 1, 176, 128]⟩
abbrev S176x128 : Shape := ⟨2, ![176, 128]⟩
abbrev S352x128 : Shape := ⟨2, ![352, 128]⟩
abbrev S352x5760 : Shape := ⟨2, ![352, 5760]⟩
abbrev S1x1x176x128 : Shape := ⟨4, ![1, 1, 176, 128]⟩
abbrev S352x1280 : Shape := ⟨2, ![352, 1280]⟩

abbrev nBuf : Space → Nat
  | .hbm => 30
  | .vmem => 13
  | .smem => 1
  | _ => 0

abbrev bufTy : (tb : Table) → Fin (tcTables nBuf tb) → BufTy
  | .hbm, ⟨0, _⟩ => ⟨S1x2, .f32⟩
  | .hbm, ⟨1, _⟩ => ⟨S2x256x176x640, .bf16⟩
  | .hbm, ⟨2, _⟩ => ⟨S3x3x640x1280, .fp8e4m3⟩
  | .hbm, ⟨3, _⟩ => ⟨S1280, .f32⟩
  | .hbm, ⟨4, _⟩ => ⟨S1280, .f32⟩
  | .hbm, ⟨5, _⟩ => ⟨S3x3x640x20, .bf16⟩
  | .hbm, ⟨6, _⟩ => ⟨S20x1280, .bf16⟩
  | .hbm, ⟨7, _⟩ => ⟨S90112x640, .bf16⟩
  | .hbm, ⟨8, _⟩ => ⟨S9x640x20, .bf16⟩
  | .hbm, ⟨9, _⟩ => ⟨S6x640x20, .bf16⟩
  | .hbm, ⟨10, _⟩ => ⟨S640x6x20, .bf16⟩
  | .hbm, ⟨11, _⟩ => ⟨S640x120, .bf16⟩
  | .hbm, ⟨12, _⟩ => ⟨S_, .i32⟩
  | .hbm, ⟨13, _⟩ => ⟨S_, .bf16⟩
  | .hbm, ⟨14, _⟩ => ⟨S640x128, .bf16⟩
  | .hbm, ⟨15, _⟩ => ⟨S3x640x20, .bf16⟩
  | .hbm, ⟨16, _⟩ => ⟨S640x3x20, .bf16⟩
  | .hbm, ⟨17, _⟩ => ⟨S640x60, .bf16⟩
  | .hbm, ⟨18, _⟩ => ⟨S_, .i32⟩
  | .hbm, ⟨19, _⟩ => ⟨S_, .bf16⟩
  | .hbm, ⟨20, _⟩ => ⟨S640x128, .bf16⟩
  | .hbm, ⟨21, _⟩ => ⟨S640x256, .bf16⟩
  | .hbm, ⟨22, _⟩ => ⟨S_, .i32⟩
  | .hbm, ⟨23, _⟩ => ⟨S_, .bf16⟩
  | .hbm, ⟨24, _⟩ => ⟨S128x1280, .bf16⟩
  | .hbm, ⟨25, _⟩ => ⟨S5760x1280, .fp8e4m3⟩
  | .hbm, ⟨26, _⟩ => ⟨S1x1280, .f32⟩
  | .hbm, ⟨27, _⟩ => ⟨S1x1280, .f32⟩
  | .hbm, ⟨28, _⟩ => ⟨S90112x1280, .bf16⟩
  | .hbm, ⟨29, _⟩ => ⟨S90112x640, .fp8e4m3⟩
  | .local _ .vmem, ⟨0, _⟩ => ⟨S1408x640, .bf16⟩
  | .local _ .vmem, ⟨1, _⟩ => ⟨S1408x640, .bf16⟩
  | .local _ .vmem, ⟨2, _⟩ => ⟨S5760x1280, .fp8e4m3⟩
  | .local _ .vmem, ⟨3, _⟩ => ⟨S1x1280, .f32⟩
  | .local _ .vmem, ⟨4, _⟩ => ⟨S1x1280, .f32⟩
  | .local _ .vmem, ⟨5, _⟩ => ⟨S640x256, .bf16⟩
  | .local _ .vmem, ⟨6, _⟩ => ⟨S128x1280, .bf16⟩
  | .local _ .vmem, ⟨7, _⟩ => ⟨S1408x1280, .bf16⟩
  | .local _ .vmem, ⟨8, _⟩ => ⟨S1408x1280, .bf16⟩
  | .local _ .vmem, ⟨9, _⟩ => ⟨S1408x640, .fp8e4m3⟩
  | .local _ .vmem, ⟨10, _⟩ => ⟨S1408x640, .fp8e4m3⟩
  | .local _ .vmem, ⟨11, _⟩ => ⟨S3x3x5x1472x128, .fp8e4m3⟩
  | .local _ .vmem, ⟨12, _⟩ => ⟨S3x2x1424x128, .f32⟩
  | .local _ .smem, ⟨0, _⟩ => ⟨S1x2, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v2 : BitVec 1 := Scalar.cmpi .slt arg0 c64_i32
  let v3 : BitVec 32 := Scalar.extui v2
  let c0_i32 : BitVec 32 := 0#32
  let v4 : BitVec 1 := Scalar.cmpi .ne v3 c0_i32
  v4

def k0_off1 (i : grid0.Coords) : Fin 5 → Nat :=
  let arg0 : BitVec 32 := BitVec.ofNat 32 (i 0).val
  let c3_i32 : BitVec 32 := 3#32
  let v8 : BitVec 32 := Scalar.remsi arg0 c3_i32
  let v21 : Index := Scalar.indexCast v8
  let c1_9 : Index := 1#32
  let c0_10 : Index := 0#32
  let c32 : Index := 32#32
  let c0_11 : Index := 0#32
  ![v21.toNat, 1, 0, 32, 0]
def k0_off2 (i : grid0.Coords) : Fin 5 → Nat :=
  let arg0 : BitVec 32 := BitVec.ofNat 32 (i 0).val
  let c3_i32 : BitVec 32 := 3#32
  let v8 : BitVec 32 := Scalar.remsi arg0 c3_i32
  let v26 : Index := Scalar.indexCast v8
  let c1_13 : Index := 1#32
  let c0_14 : Index := 0#32
  let c1440 : Index := 1440#32
  let c0_15 : Index := 0#32
  ![v26.toNat, 1, 0, 1440, 0]
def k0_off3 (i : grid0.Coords) : Fin 5 → Nat :=
  let arg0 : BitVec 32 := BitVec.ofNat 32 (i 0).val
  let c3_i32 : BitVec 32 := 3#32
  let v8 : BitVec 32 := Scalar.remsi arg0 c3_i32
  let v31 : Index := Scalar.indexCast v8
  let c1_17 : Index := 1#32
  let c0_18 : Index := 0#32
  let c0_19 : Index := 0#32
  let c0_20 : Index := 0#32
  ![v31.toNat, 1, 0, 0, 0]
def k0_off4 (i : grid0.Coords) : Fin 5 → Nat :=
  let arg0 : BitVec 32 := BitVec.ofNat 32 (i 0).val
  let c3_i32 : BitVec 32 := 3#32
  let v8 : BitVec 32 := Scalar.remsi arg0 c3_i32
  let v36 : Index := Scalar.indexCast v8
  let c1_21 : Index := 1#32
  let c1_22 : Index := 1#32
  let c32_23 : Index := 32#32
  let c0_24 : Index := 0#32
  ![v36.toNat, 1, 1, 32, 0]
def k0_off5 (i : grid0.Coords) : Fin 5 → Nat :=
  let arg0 : BitVec 32 := BitVec.ofNat 32 (i 0).val
  let c3_i32 : BitVec 32 := 3#32
  let v8 : BitVec 32 := Scalar.remsi arg0 c3_i32
  let v41 : Index := Scalar.indexCast v8
  let c1_26 : Index := 1#32
  let c1_27 : Index := 1#32
  let c1440_28 : Index := 1440#32
  let c0_29 : Index := 0#32
  ![v41.toNat, 1, 1, 1440, 0]
def k0_off6 (i : grid0.Coords) : Fin 5 → Nat :=
  let arg0 : BitVec 32 := BitVec.ofNat 32 (i 0).val
  let c3_i32 : BitVec 32 := 3#32
  let v8 : BitVec 32 := Scalar.remsi arg0 c3_i32
  let v46 : Index := Scalar.indexCast v8
  let c1_31 : Index := 1#32
  let c1_32 : Index := 1#32
  let c0_33 : Index := 0#32
  let c0_34 : Index := 0#32
  ![v46.toNat, 1, 1, 0, 0]
def k0_off7 (i : grid0.Coords) : Fin 5 → Nat :=
  let arg0 : BitVec 32 := BitVec.ofNat 32 (i 0).val
  let c3_i32 : BitVec 32 := 3#32
  let v8 : BitVec 32 := Scalar.remsi arg0 c3_i32
  let v51 : Index := Scalar.indexCast v8
  let c1_35 : Index := 1#32
  let c2 : Index := 2#32
  let c32_36 : Index := 32#32
  let c0_37 : Index := 0#32
  ![v51.toNat, 1, 2, 32, 0]
def k0_off8 (i : grid0.Coords) : Fin 5 → Nat :=
  let arg0 : BitVec 32 := BitVec.ofNat 32 (i 0).val
  let c3_i32 : BitVec 32 := 3#32
  let v8 : BitVec 32 := Scalar.remsi arg0 c3_i32
  let v56 : Index := Scalar.indexCast v8
  let c1_39 : Index := 1#32
  let c2_40 : Index := 2#32
  let c1440_41 : Index := 1440#32
  let c0_42 : Index := 0#32
  ![v56.toNat, 1, 2, 1440, 0]
def k0_off9 (i : grid0.Coords) : Fin 5 → Nat :=
  let arg0 : BitVec 32 := BitVec.ofNat 32 (i 0).val
  let c3_i32 : BitVec 32 := 3#32
  let v8 : BitVec 32 := Scalar.remsi arg0 c3_i32
  let v61 : Index := Scalar.indexCast v8
  let c1_44 : Index := 1#32
  let c2_45 : Index := 2#32
  let c0_46 : Index := 0#32
  let c0_47 : Index := 0#32
  ![v61.toNat, 1, 2, 0, 0]
def k0_off10 (i : grid0.Coords) : Fin 5 → Nat :=
  let arg0 : BitVec 32 := BitVec.ofNat 32 (i 0).val
  let c3_i32 : BitVec 32 := 3#32
  let v8 : BitVec 32 := Scalar.remsi arg0 c3_i32
  let v66 : Index := Scalar.indexCast v8
  let c1_48 : Index := 1#32
  let c3 : Index := 3#32
  let c32_49 : Index := 32#32
  let c0_50 : Index := 0#32
  ![v66.toNat, 1, 3, 32, 0]
def k0_off11 (i : grid0.Coords) : Fin 5 → Nat :=
  let arg0 : BitVec 32 := BitVec.ofNat 32 (i 0).val
  let c3_i32 : BitVec 32 := 3#32
  let v8 : BitVec 32 := Scalar.remsi arg0 c3_i32
  let v71 : Index := Scalar.indexCast v8
  let c1_52 : Index := 1#32
  let c3_53 : Index := 3#32
  let c1440_54 : Index := 1440#32
  let c0_55 : Index := 0#32
  ![v71.toNat, 1, 3, 1440, 0]
def k0_off12 (i : grid0.Coords) : Fin 5 → Nat :=
  let arg0 : BitVec 32 := BitVec.ofNat 32 (i 0).val
  let c3_i32 : BitVec 32 := 3#32
  let v8 : BitVec 32 := Scalar.remsi arg0 c3_i32
  let v76 : Index := Scalar.indexCast v8
  let c1_57 : Index := 1#32
  let c3_58 : Index := 3#32
  let c0_59 : Index := 0#32
  let c0_60 : Index := 0#32
  ![v76.toNat, 1, 3, 0, 0]
def k0_off13 (i : grid0.Coords) : Fin 5 → Nat :=
  let arg0 : BitVec 32 := BitVec.ofNat 32 (i 0).val
  let c3_i32 : BitVec 32 := 3#32
  let v8 : BitVec 32 := Scalar.remsi arg0 c3_i32
  let v81 : Index := Scalar.indexCast v8
  let c1_61 : Index := 1#32
  let c4 : Index := 4#32
  let c32_62 : Index := 32#32
  let c0_63 : Index := 0#32
  ![v81.toNat, 1, 4, 32, 0]
def k0_off14 (i : grid0.Coords) : Fin 5 → Nat :=
  let arg0 : BitVec 32 := BitVec.ofNat 32 (i 0).val
  let c3_i32 : BitVec 32 := 3#32
  let v8 : BitVec 32 := Scalar.remsi arg0 c3_i32
  let v86 : Index := Scalar.indexCast v8
  let c1_65 : Index := 1#32
  let c4_66 : Index := 4#32
  let c1440_67 : Index := 1440#32
  let c0_68 : Index := 0#32
  ![v86.toNat, 1, 4, 1440, 0]
def k0_off15 (i : grid0.Coords) : Fin 5 → Nat :=
  let arg0 : BitVec 32 := BitVec.ofNat 32 (i 0).val
  let c3_i32 : BitVec 32 := 3#32
  let v8 : BitVec 32 := Scalar.remsi arg0 c3_i32
  let v91 : Index := Scalar.indexCast v8
  let c1_70 : Index := 1#32
  let c4_71 : Index := 4#32
  let c0_72 : Index := 0#32
  let c0_73 : Index := 0#32
  ![v91.toNat, 1, 4, 0, 0]
def k0_off16 (i : grid0.Coords) : Fin 5 → Nat :=
  let arg0 : BitVec 32 := BitVec.ofNat 32 (i 0).val
  let c3_i32 : BitVec 32 := 3#32
  let v8 : BitVec 32 := Scalar.remsi arg0 c3_i32
  let v119 : Index := Scalar.indexCast v8
  let c1_83 : Index := 1#32
  let c0_84 : Index := 0#32
  let c28 : Index := 28#32
  let c0_85 : Index := 0#32
  ![v119.toNat, 1, 0, 28, 0]
def k0_off17 (i : grid0.Coords) : Fin 5 → Nat :=
  let arg0 : BitVec 32 := BitVec.ofNat 32 (i 0).val
  let c3_i32 : BitVec 32 := 3#32
  let v8 : BitVec 32 := Scalar.remsi arg0 c3_i32
  let v122 : Index := Scalar.indexCast v8
  let c1_86 : Index := 1#32
  let c0_87 : Index := 0#32
  let c36 : Index := 36#32
  let c0_88 : Index := 0#32
  ![v122.toNat, 1, 0, 36, 0]
def k0_off18 (i : grid0.Coords) : Fin 5 → Nat :=
  let arg0 : BitVec 32 := BitVec.ofNat 32 (i 0).val
  let c3_i32 : BitVec 32 := 3#32
  let v8 : BitVec 32 := Scalar.remsi arg0 c3_i32
  let v133 : Index := Scalar.indexCast v8
  let c0_90 : Index := 0#32
  let c0_91 : Index := 0#32
  let c32_92 : Index := 32#32
  let c0_93 : Index := 0#32
  ![v133.toNat, 0, 0, 32, 0]
def k0_off19 (i : grid0.Coords) : Fin 5 → Nat :=
  let arg0 : BitVec 32 := BitVec.ofNat 32 (i 0).val
  let c3_i32 : BitVec 32 := 3#32
  let v8 : BitVec 32 := Scalar.remsi arg0 c3_i32
  let v139 : Index := Scalar.indexCast v8
  let c2_95 : Index := 2#32
  let c0_96 : Index := 0#32
  let c32_97 : Index := 32#32
  let c0_98 : Index := 0#32
  ![v139.toNat, 2, 0, 32, 0]
def k0_off20 (i : grid0.Coords) : Fin 5 → Nat :=
  let arg0 : BitVec 32 := BitVec.ofNat 32 (i 0).val
  let c3_i32 : BitVec 32 := 3#32
  let v8 : BitVec 32 := Scalar.remsi arg0 c3_i32
  let v146 : Index := Scalar.indexCast v8
  let c1_103 : Index := 1#32
  let c1_104 : Index := 1#32
  let c28_105 : Index := 28#32
  let c0_106 : Index := 0#32
  ![v146.toNat, 1, 1, 28, 0]
def k0_off21 (i : grid0.Coords) : Fin 5 → Nat :=
  let arg0 : BitVec 32 := BitVec.ofNat 32 (i 0).val
  let c3_i32 : BitVec 32 := 3#32
  let v8 : BitVec 32 := Scalar.remsi arg0 c3_i32
  let v149 : Index := Scalar.indexCast v8
  let c1_107 : Index := 1#32
  let c1_108 : Index := 1#32
  let c36_109 : Index := 36#32
  let c0_110 : Index := 0#32
  ![v149.toNat, 1, 1, 36, 0]
def k0_off22 (i : grid0.Coords) : Fin 5 → Nat :=
  let arg0 : BitVec 32 := BitVec.ofNat 32 (i 0).val
  let c3_i32 : BitVec 32 := 3#32
  let v8 : BitVec 32 := Scalar.remsi arg0 c3_i32
  let v160 : Index := Scalar.indexCast v8
  let c0_112 : Index := 0#32
  let c1_113 : Index := 1#32
  let c32_114 : Index := 32#32
  let c0_115 : Index := 0#32
  ![v160.toNat, 0, 1, 32, 0]
def k0_off23 (i : grid0.Coords) : Fin 5 → Nat :=
  let arg0 : BitVec 32 := BitVec.ofNat 32 (i 0).val
  let c3_i32 : BitVec 32 := 3#32
  let v8 : BitVec 32 := Scalar.remsi arg0 c3_i32
  let v166 : Index := Scalar.indexCast v8
  let c2_117 : Index := 2#32
  let c1_118 : Index := 1#32
  let c32_119 : Index := 32#32
  let c0_120 : Index := 0#32
  ![v166.toNat, 2, 1, 32, 0]
def k0_off24 (i : grid0.Coords) : Fin 5 → Nat :=
  let arg0 : BitVec 32 := BitVec.ofNat 32 (i 0).val
  let c3_i32 : BitVec 32 := 3#32
  let v8 : BitVec 32 := Scalar.remsi arg0 c3_i32
  let v173 : Index := Scalar.indexCast v8
  let c1_125 : Index := 1#32
  let c2_126 : Index := 2#32
  let c28_127 : Index := 28#32
  let c0_128 : Index := 0#32
  ![v173.toNat, 1, 2, 28, 0]
def k0_off25 (i : grid0.Coords) : Fin 5 → Nat :=
  let arg0 : BitVec 32 := BitVec.ofNat 32 (i 0).val
  let c3_i32 : BitVec 32 := 3#32
  let v8 : BitVec 32 := Scalar.remsi arg0 c3_i32
  let v176 : Index := Scalar.indexCast v8
  let c1_129 : Index := 1#32
  let c2_130 : Index := 2#32
  let c36_131 : Index := 36#32
  let c0_132 : Index := 0#32
  ![v176.toNat, 1, 2, 36, 0]
def k0_off26 (i : grid0.Coords) : Fin 5 → Nat :=
  let arg0 : BitVec 32 := BitVec.ofNat 32 (i 0).val
  let c3_i32 : BitVec 32 := 3#32
  let v8 : BitVec 32 := Scalar.remsi arg0 c3_i32
  let v187 : Index := Scalar.indexCast v8
  let c0_134 : Index := 0#32
  let c2_135 : Index := 2#32
  let c32_136 : Index := 32#32
  let c0_137 : Index := 0#32
  ![v187.toNat, 0, 2, 32, 0]
def k0_off27 (i : grid0.Coords) : Fin 5 → Nat :=
  let arg0 : BitVec 32 := BitVec.ofNat 32 (i 0).val
  let c3_i32 : BitVec 32 := 3#32
  let v8 : BitVec 32 := Scalar.remsi arg0 c3_i32
  let v193 : Index := Scalar.indexCast v8
  let c2_139 : Index := 2#32
  let c2_140 : Index := 2#32
  let c32_141 : Index := 32#32
  let c0_142 : Index := 0#32
  ![v193.toNat, 2, 2, 32, 0]
def k0_off28 (i : grid0.Coords) : Fin 5 → Nat :=
  let arg0 : BitVec 32 := BitVec.ofNat 32 (i 0).val
  let c3_i32 : BitVec 32 := 3#32
  let v8 : BitVec 32 := Scalar.remsi arg0 c3_i32
  let v200 : Index := Scalar.indexCast v8
  let c1_147 : Index := 1#32
  let c3_148 : Index := 3#32
  let c28_149 : Index := 28#32
  let c0_150 : Index := 0#32
  ![v200.toNat, 1, 3, 28, 0]
def k0_off29 (i : grid0.Coords) : Fin 5 → Nat :=
  let arg0 : BitVec 32 := BitVec.ofNat 32 (i 0).val
  let c3_i32 : BitVec 32 := 3#32
  let v8 : BitVec 32 := Scalar.remsi arg0 c3_i32
  let v203 : Index := Scalar.indexCast v8
  let c1_151 : Index := 1#32
  let c3_152 : Index := 3#32
  let c36_153 : Index := 36#32
  let c0_154 : Index := 0#32
  ![v203.toNat, 1, 3, 36, 0]
def k0_off30 (i : grid0.Coords) : Fin 5 → Nat :=
  let arg0 : BitVec 32 := BitVec.ofNat 32 (i 0).val
  let c3_i32 : BitVec 32 := 3#32
  let v8 : BitVec 32 := Scalar.remsi arg0 c3_i32
  let v214 : Index := Scalar.indexCast v8
  let c0_156 : Index := 0#32
  let c3_157 : Index := 3#32
  let c32_158 : Index := 32#32
  let c0_159 : Index := 0#32
  ![v214.toNat, 0, 3, 32, 0]
def k0_off31 (i : grid0.Coords) : Fin 5 → Nat :=
  let arg0 : BitVec 32 := BitVec.ofNat 32 (i 0).val
  let c3_i32 : BitVec 32 := 3#32
  let v8 : BitVec 32 := Scalar.remsi arg0 c3_i32
  let v220 : Index := Scalar.indexCast v8
  let c2_161 : Index := 2#32
  let c3_162 : Index := 3#32
  let c32_163 : Index := 32#32
  let c0_164 : Index := 0#32
  ![v220.toNat, 2, 3, 32, 0]
def k0_off32 (i : grid0.Coords) : Fin 5 → Nat :=
  let arg0 : BitVec 32 := BitVec.ofNat 32 (i 0).val
  let c3_i32 : BitVec 32 := 3#32
  let v8 : BitVec 32 := Scalar.remsi arg0 c3_i32
  let v227 : Index := Scalar.indexCast v8
  let c1_169 : Index := 1#32
  let c4_170 : Index := 4#32
  let c28_171 : Index := 28#32
  let c0_172 : Index := 0#32
  ![v227.toNat, 1, 4, 28, 0]
def k0_off33 (i : grid0.Coords) : Fin 5 → Nat :=
  let arg0 : BitVec 32 := BitVec.ofNat 32 (i 0).val
  let c3_i32 : BitVec 32 := 3#32
  let v8 : BitVec 32 := Scalar.remsi arg0 c3_i32
  let v230 : Index := Scalar.indexCast v8
  let c1_173 : Index := 1#32
  let c4_174 : Index := 4#32
  let c36_175 : Index := 36#32
  let c0_176 : Index := 0#32
  ![v230.toNat, 1, 4, 36, 0]
def k0_off34 (i : grid0.Coords) : Fin 5 → Nat :=
  let arg0 : BitVec 32 := BitVec.ofNat 32 (i 0).val
  let c3_i32 : BitVec 32 := 3#32
  let v8 : BitVec 32 := Scalar.remsi arg0 c3_i32
  let v241 : Index := Scalar.indexCast v8
  let c0_178 : Index := 0#32
  let c4_179 : Index := 4#32
  let c32_180 : Index := 32#32
  let c0_181 : Index := 0#32
  ![v241.toNat, 0, 4, 32, 0]
def k0_off35 (i : grid0.Coords) : Fin 5 → Nat :=
  let arg0 : BitVec 32 := BitVec.ofNat 32 (i 0).val
  let c3_i32 : BitVec 32 := 3#32
  let v8 : BitVec 32 := Scalar.remsi arg0 c3_i32
  let v247 : Index := Scalar.indexCast v8
  let c2_183 : Index := 2#32
  let c4_184 : Index := 4#32
  let c32_185 : Index := 32#32
  let c0_186 : Index := 0#32
  ![v247.toNat, 2, 4, 32, 0]
def k0_off36 (i : grid0.Coords) : Fin 4 → Nat :=
  let arg0 : BitVec 32 := BitVec.ofNat 32 (i 0).val
  let c3_i32 : BitVec 32 := 3#32
  let v8 : BitVec 32 := Scalar.remsi arg0 c3_i32
  let v256 : Index := Scalar.indexCast v8
  let c0_190 : Index := 0#32
  let c8 : Index := 8#32
  let c0_191 : Index := 0#32
  ![v256.toNat, 0, 8, 0]
def k0_off37 (i : grid0.Coords) : Fin 4 → Nat :=
  let arg0 : BitVec 32 := BitVec.ofNat 32 (i 0).val
  let c3_i32 : BitVec 32 := 3#32
  let v8 : BitVec 32 := Scalar.remsi arg0 c3_i32
  let v261 : Index := Scalar.indexCast v8
  let c1_192 : Index := 1#32
  let c8_193 : Index := 8#32
  let c0_194 : Index := 0#32
  ![v261.toNat, 1, 8, 0]
def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def k0_off38 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v22 : Index := Scalar.indexCast v13
  let c0_13 : Index := 0#32
  let c0_14 : Index := 0#32
  let c1264 : Index := 1264#32
  let c0_15 : Index := 0#32
  ![v22.toNat, 0, 0, 1264, 0]
def k0_off39 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v27 : Index := Scalar.indexCast v9
  let c0_16 : Index := 0#32
  let c0_17 : Index := 0#32
  let c32 : Index := 32#32
  let c0_18 : Index := 0#32
  ![v27.toNat, 0, 0, 32, 0]
def k0_off40 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v31 : Index := Scalar.indexCast v13
  let c0_19 : Index := 0#32
  let c1_20 : Index := 1#32
  let c1264_21 : Index := 1264#32
  let c0_22 : Index := 0#32
  ![v31.toNat, 0, 1, 1264, 0]
def k0_off41 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v36 : Index := Scalar.indexCast v9
  let c0_24 : Index := 0#32
  let c1_25 : Index := 1#32
  let c32_26 : Index := 32#32
  let c0_27 : Index := 0#32
  ![v36.toNat, 0, 1, 32, 0]
def k0_off42 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v40 : Index := Scalar.indexCast v13
  let c0_28 : Index := 0#32
  let c2 : Index := 2#32
  let c1264_29 : Index := 1264#32
  let c0_30 : Index := 0#32
  ![v40.toNat, 0, 2, 1264, 0]
def k0_off43 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v45 : Index := Scalar.indexCast v9
  let c0_32 : Index := 0#32
  let c2_33 : Index := 2#32
  let c32_34 : Index := 32#32
  let c0_35 : Index := 0#32
  ![v45.toNat, 0, 2, 32, 0]
def k0_off44 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v49 : Index := Scalar.indexCast v13
  let c0_36 : Index := 0#32
  let c3 : Index := 3#32
  let c1264_37 : Index := 1264#32
  let c0_38 : Index := 0#32
  ![v49.toNat, 0, 3, 1264, 0]
def k0_off45 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v54 : Index := Scalar.indexCast v9
  let c0_40 : Index := 0#32
  let c3_41 : Index := 3#32
  let c32_42 : Index := 32#32
  let c0_43 : Index := 0#32
  ![v54.toNat, 0, 3, 32, 0]
def k0_off46 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v58 : Index := Scalar.indexCast v13
  let c0_44 : Index := 0#32
  let c4 : Index := 4#32
  let c1264_45 : Index := 1264#32
  let c0_46 : Index := 0#32
  ![v58.toNat, 0, 4, 1264, 0]
def k0_off47 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v63 : Index := Scalar.indexCast v9
  let c0_48 : Index := 0#32
  let c4_49 : Index := 4#32
  let c32_50 : Index := 32#32
  let c0_51 : Index := 0#32
  ![v63.toNat, 0, 4, 32, 0]
def k0_off48 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v67 : Index := Scalar.indexCast v13
  let c1_52 : Index := 1#32
  let c0_53 : Index := 0#32
  let c1264_54 : Index := 1264#32
  let c0_55 : Index := 0#32
  ![v67.toNat, 1, 0, 1264, 0]
def k0_off49 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v72 : Index := Scalar.indexCast v9
  let c1_57 : Index := 1#32
  let c0_58 : Index := 0#32
  let c32_59 : Index := 32#32
  let c0_60 : Index := 0#32
  ![v72.toNat, 1, 0, 32, 0]
def k0_off50 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v76 : Index := Scalar.indexCast v13
  let c1_61 : Index := 1#32
  let c1_62 : Index := 1#32
  let c1264_63 : Index := 1264#32
  let c0_64 : Index := 0#32
  ![v76.toNat, 1, 1, 1264, 0]
def k0_off51 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v81 : Index := Scalar.indexCast v9
  let c1_66 : Index := 1#32
  let c1_67 : Index := 1#32
  let c32_68 : Index := 32#32
  let c0_69 : Index := 0#32
  ![v81.toNat, 1, 1, 32, 0]
def k0_off52 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v85 : Index := Scalar.indexCast v13
  let c1_70 : Index := 1#32
  let c2_71 : Index := 2#32
  let c1264_72 : Index := 1264#32
  let c0_73 : Index := 0#32
  ![v85.toNat, 1, 2, 1264, 0]
def k0_off53 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v90 : Index := Scalar.indexCast v9
  let c1_75 : Index := 1#32
  let c2_76 : Index := 2#32
  let c32_77 : Index := 32#32
  let c0_78 : Index := 0#32
  ![v90.toNat, 1, 2, 32, 0]
def k0_off54 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v94 : Index := Scalar.indexCast v13
  let c1_79 : Index := 1#32
  let c3_80 : Index := 3#32
  let c1264_81 : Index := 1264#32
  let c0_82 : Index := 0#32
  ![v94.toNat, 1, 3, 1264, 0]
def k0_off55 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v99 : Index := Scalar.indexCast v9
  let c1_84 : Index := 1#32
  let c3_85 : Index := 3#32
  let c32_86 : Index := 32#32
  let c0_87 : Index := 0#32
  ![v99.toNat, 1, 3, 32, 0]
def k0_off56 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v103 : Index := Scalar.indexCast v13
  let c1_88 : Index := 1#32
  let c4_89 : Index := 4#32
  let c1264_90 : Index := 1264#32
  let c0_91 : Index := 0#32
  ![v103.toNat, 1, 4, 1264, 0]
def k0_off57 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v108 : Index := Scalar.indexCast v9
  let c1_93 : Index := 1#32
  let c4_94 : Index := 4#32
  let c32_95 : Index := 32#32
  let c0_96 : Index := 0#32
  ![v108.toNat, 1, 4, 32, 0]
def k0_off58 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v112 : Index := Scalar.indexCast v13
  let c2_97 : Index := 2#32
  let c0_98 : Index := 0#32
  let c1264_99 : Index := 1264#32
  let c0_100 : Index := 0#32
  ![v112.toNat, 2, 0, 1264, 0]
def k0_off59 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v117 : Index := Scalar.indexCast v9
  let c2_102 : Index := 2#32
  let c0_103 : Index := 0#32
  let c32_104 : Index := 32#32
  let c0_105 : Index := 0#32
  ![v117.toNat, 2, 0, 32, 0]
def k0_off60 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v121 : Index := Scalar.indexCast v13
  let c2_106 : Index := 2#32
  let c1_107 : Index := 1#32
  let c1264_108 : Index := 1264#32
  let c0_109 : Index := 0#32
  ![v121.toNat, 2, 1, 1264, 0]
def k0_off61 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v126 : Index := Scalar.indexCast v9
  let c2_111 : Index := 2#32
  let c1_112 : Index := 1#32
  let c32_113 : Index := 32#32
  let c0_114 : Index := 0#32
  ![v126.toNat, 2, 1, 32, 0]
def k0_off62 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v130 : Index := Scalar.indexCast v13
  let c2_115 : Index := 2#32
  let c2_116 : Index := 2#32
  let c1264_117 : Index := 1264#32
  let c0_118 : Index := 0#32
  ![v130.toNat, 2, 2, 1264, 0]
def k0_off63 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v135 : Index := Scalar.indexCast v9
  let c2_120 : Index := 2#32
  let c2_121 : Index := 2#32
  let c32_122 : Index := 32#32
  let c0_123 : Index := 0#32
  ![v135.toNat, 2, 2, 32, 0]
def k0_off64 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v139 : Index := Scalar.indexCast v13
  let c2_124 : Index := 2#32
  let c3_125 : Index := 3#32
  let c1264_126 : Index := 1264#32
  let c0_127 : Index := 0#32
  ![v139.toNat, 2, 3, 1264, 0]
def k0_off65 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v144 : Index := Scalar.indexCast v9
  let c2_129 : Index := 2#32
  let c3_130 : Index := 3#32
  let c32_131 : Index := 32#32
  let c0_132 : Index := 0#32
  ![v144.toNat, 2, 3, 32, 0]
def k0_off66 (i : grid0.Coords) : Fin 5 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v148 : Index := Scalar.indexCast v13
  let c2_133 : Index := 2#32
  let c4_134 : Index := 4#32
  let c1264_135 : Index := 1264#32
  let c0_136 : Index := 0#32
  ![v148.toNat, 2, 4, 1264, 0]
def k0_off67 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v153 : Index := Scalar.indexCast v9
  let c2_138 : Index := 2#32
  let c4_139 : Index := 4#32
  let c32_140 : Index := 32#32
  let c0_141 : Index := 0#32
  ![v153.toNat, 2, 4, 32, 0]
def k0_off68 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v160 : Index := Scalar.indexCast v9
  let c0_146 : Index := 0#32
  let c0_147 : Index := 0#32
  let c208 : Index := 208#32
  let c0_148 : Index := 0#32
  ![v160.toNat, 0, 0, 208, 0]
def k0_off69 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v167 : Index := Scalar.indexCast v9
  let c0_153 : Index := 0#32
  let c1_154 : Index := 1#32
  let c208_155 : Index := 208#32
  let c0_156 : Index := 0#32
  ![v167.toNat, 0, 1, 208, 0]
def k0_off70 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v174 : Index := Scalar.indexCast v9
  let c0_161 : Index := 0#32
  let c2_162 : Index := 2#32
  let c208_163 : Index := 208#32
  let c0_164 : Index := 0#32
  ![v174.toNat, 0, 2, 208, 0]
def k0_off71 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v181 : Index := Scalar.indexCast v9
  let c0_169 : Index := 0#32
  let c3_170 : Index := 3#32
  let c208_171 : Index := 208#32
  let c0_172 : Index := 0#32
  ![v181.toNat, 0, 3, 208, 0]
def k0_off72 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v188 : Index := Scalar.indexCast v9
  let c0_177 : Index := 0#32
  let c4_178 : Index := 4#32
  let c208_179 : Index := 208#32
  let c0_180 : Index := 0#32
  ![v188.toNat, 0, 4, 208, 0]
def k0_off73 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v195 : Index := Scalar.indexCast v9
  let c1_185 : Index := 1#32
  let c0_186 : Index := 0#32
  let c208_187 : Index := 208#32
  let c0_188 : Index := 0#32
  ![v195.toNat, 1, 0, 208, 0]
def k0_off74 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v202 : Index := Scalar.indexCast v9
  let c1_193 : Index := 1#32
  let c1_194 : Index := 1#32
  let c208_195 : Index := 208#32
  let c0_196 : Index := 0#32
  ![v202.toNat, 1, 1, 208, 0]
def k0_off75 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v209 : Index := Scalar.indexCast v9
  let c1_201 : Index := 1#32
  let c2_202 : Index := 2#32
  let c208_203 : Index := 208#32
  let c0_204 : Index := 0#32
  ![v209.toNat, 1, 2, 208, 0]
def k0_off76 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v216 : Index := Scalar.indexCast v9
  let c1_209 : Index := 1#32
  let c3_210 : Index := 3#32
  let c208_211 : Index := 208#32
  let c0_212 : Index := 0#32
  ![v216.toNat, 1, 3, 208, 0]
def k0_off77 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v223 : Index := Scalar.indexCast v9
  let c1_217 : Index := 1#32
  let c4_218 : Index := 4#32
  let c208_219 : Index := 208#32
  let c0_220 : Index := 0#32
  ![v223.toNat, 1, 4, 208, 0]
def k0_off78 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v230 : Index := Scalar.indexCast v9
  let c2_225 : Index := 2#32
  let c0_226 : Index := 0#32
  let c208_227 : Index := 208#32
  let c0_228 : Index := 0#32
  ![v230.toNat, 2, 0, 208, 0]
def k0_off79 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v237 : Index := Scalar.indexCast v9
  let c2_233 : Index := 2#32
  let c1_234 : Index := 1#32
  let c208_235 : Index := 208#32
  let c0_236 : Index := 0#32
  ![v237.toNat, 2, 1, 208, 0]
def k0_off80 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v244 : Index := Scalar.indexCast v9
  let c2_241 : Index := 2#32
  let c2_242 : Index := 2#32
  let c208_243 : Index := 208#32
  let c0_244 : Index := 0#32
  ![v244.toNat, 2, 2, 208, 0]
def k0_off81 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v251 : Index := Scalar.indexCast v9
  let c2_249 : Index := 2#32
  let c3_250 : Index := 3#32
  let c208_251 : Index := 208#32
  let c0_252 : Index := 0#32
  ![v251.toNat, 2, 3, 208, 0]
def k0_off82 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v258 : Index := Scalar.indexCast v9
  let c2_257 : Index := 2#32
  let c4_258 : Index := 4#32
  let c208_259 : Index := 208#32
  let c0_260 : Index := 0#32
  ![v258.toNat, 2, 4, 208, 0]
def k0_off83 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v265 : Index := Scalar.indexCast v9
  let c0_265 : Index := 0#32
  let c0_266 : Index := 0#32
  let c384 : Index := 384#32
  let c0_267 : Index := 0#32
  ![v265.toNat, 0, 0, 384, 0]
def k0_off84 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v272 : Index := Scalar.indexCast v9
  let c0_272 : Index := 0#32
  let c1_273 : Index := 1#32
  let c384_274 : Index := 384#32
  let c0_275 : Index := 0#32
  ![v272.toNat, 0, 1, 384, 0]
def k0_off85 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v279 : Index := Scalar.indexCast v9
  let c0_280 : Index := 0#32
  let c2_281 : Index := 2#32
  let c384_282 : Index := 384#32
  let c0_283 : Index := 0#32
  ![v279.toNat, 0, 2, 384, 0]
def k0_off86 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v286 : Index := Scalar.indexCast v9
  let c0_288 : Index := 0#32
  let c3_289 : Index := 3#32
  let c384_290 : Index := 384#32
  let c0_291 : Index := 0#32
  ![v286.toNat, 0, 3, 384, 0]
def k0_off87 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v293 : Index := Scalar.indexCast v9
  let c0_296 : Index := 0#32
  let c4_297 : Index := 4#32
  let c384_298 : Index := 384#32
  let c0_299 : Index := 0#32
  ![v293.toNat, 0, 4, 384, 0]
def k0_off88 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v300 : Index := Scalar.indexCast v9
  let c1_304 : Index := 1#32
  let c0_305 : Index := 0#32
  let c384_306 : Index := 384#32
  let c0_307 : Index := 0#32
  ![v300.toNat, 1, 0, 384, 0]
def k0_off89 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v307 : Index := Scalar.indexCast v9
  let c1_312 : Index := 1#32
  let c1_313 : Index := 1#32
  let c384_314 : Index := 384#32
  let c0_315 : Index := 0#32
  ![v307.toNat, 1, 1, 384, 0]
def k0_off90 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v314 : Index := Scalar.indexCast v9
  let c1_320 : Index := 1#32
  let c2_321 : Index := 2#32
  let c384_322 : Index := 384#32
  let c0_323 : Index := 0#32
  ![v314.toNat, 1, 2, 384, 0]
def k0_off91 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v321 : Index := Scalar.indexCast v9
  let c1_328 : Index := 1#32
  let c3_329 : Index := 3#32
  let c384_330 : Index := 384#32
  let c0_331 : Index := 0#32
  ![v321.toNat, 1, 3, 384, 0]
def k0_off92 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v328 : Index := Scalar.indexCast v9
  let c1_336 : Index := 1#32
  let c4_337 : Index := 4#32
  let c384_338 : Index := 384#32
  let c0_339 : Index := 0#32
  ![v328.toNat, 1, 4, 384, 0]
def k0_off93 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v335 : Index := Scalar.indexCast v9
  let c2_344 : Index := 2#32
  let c0_345 : Index := 0#32
  let c384_346 : Index := 384#32
  let c0_347 : Index := 0#32
  ![v335.toNat, 2, 0, 384, 0]
def k0_off94 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v342 : Index := Scalar.indexCast v9
  let c2_352 : Index := 2#32
  let c1_353 : Index := 1#32
  let c384_354 : Index := 384#32
  let c0_355 : Index := 0#32
  ![v342.toNat, 2, 1, 384, 0]
def k0_off95 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v349 : Index := Scalar.indexCast v9
  let c2_360 : Index := 2#32
  let c2_361 : Index := 2#32
  let c384_362 : Index := 384#32
  let c0_363 : Index := 0#32
  ![v349.toNat, 2, 2, 384, 0]
def k0_off96 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v356 : Index := Scalar.indexCast v9
  let c2_368 : Index := 2#32
  let c3_369 : Index := 3#32
  let c384_370 : Index := 384#32
  let c0_371 : Index := 0#32
  ![v356.toNat, 2, 3, 384, 0]
def k0_off97 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v363 : Index := Scalar.indexCast v9
  let c2_376 : Index := 2#32
  let c4_377 : Index := 4#32
  let c384_378 : Index := 384#32
  let c0_379 : Index := 0#32
  ![v363.toNat, 2, 4, 384, 0]
def k0_off98 (i : grid0.Coords) : Fin 4 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v368 : Index := Scalar.indexCast v13
  let c0_380 : Index := 0#32
  let c1239 : Index := 1239#32
  let c0_381 : Index := 0#32
  ![v368.toNat, 0, 1239, 0]
def k0_off99 (i : grid0.Coords) : Fin 4 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v378 : Index := Scalar.indexCast v13
  let c0_385 : Index := 0#32
  let c1240 : Index := 1240#32
  let c0_386 : Index := 0#32
  ![v378.toNat, 0, 1240, 0]
def k0_off100 (i : grid0.Coords) : Fin 4 → Nat :=
  let arg0 : BitVec 32 := BitVec.ofNat 32 (i 0).val
  let c1_i32 : BitVec 32 := 1#32
  let v8 : BitVec 32 := Scalar.subi arg0 c1_i32
  let c2_i32 : BitVec 32 := 2#32
  let v12 : BitVec 32 := Scalar.addi v8 c2_i32
  let c3_i32_6 : BitVec 32 := 3#32
  let v13 : BitVec 32 := Scalar.remsi v12 c3_i32_6
  let v385 : Index := Scalar.indexCast v13
  let c0_388 : Index := 0#32
  let c1241 : Index := 1241#32
  let c0_389 : Index := 0#32
  ![v385.toNat, 0, 1241, 0]
def k0_off101 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v397 : Index := Scalar.indexCast v9
  let c0_392 : Index := 0#32
  let c7 : Index := 7#32
  let c0_393 : Index := 0#32
  ![v397.toNat, 0, 7, 0]
def k0_off102 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v407 : Index := Scalar.indexCast v9
  let c0_396 : Index := 0#32
  let c8 : Index := 8#32
  let c0_397 : Index := 0#32
  ![v407.toNat, 0, 8, 0]
def k0_off103 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v412 : Index := Scalar.indexCast v9
  let c0_398 : Index := 0#32
  let c9 : Index := 9#32
  let c0_399 : Index := 0#32
  ![v412.toNat, 0, 9, 0]
def k0_off104 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v422 : Index := Scalar.indexCast v9
  let c1_402 : Index := 1#32
  let c183 : Index := 183#32
  let c0_403 : Index := 0#32
  ![v422.toNat, 1, 183, 0]
def k0_off105 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v431 : Index := Scalar.indexCast v9
  let c1_406 : Index := 1#32
  let c184 : Index := 184#32
  let c0_407 : Index := 0#32
  ![v431.toNat, 1, 184, 0]
def k0_off106 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v436 : Index := Scalar.indexCast v9
  let c1_409 : Index := 1#32
  let c185 : Index := 185#32
  let c0_410 : Index := 0#32
  ![v436.toNat, 1, 185, 0]
def k0_off107 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v477 : Index := Scalar.indexCast v9
  let c0_430 : Index := 0#32
  let c183_431 : Index := 183#32
  let c0_432 : Index := 0#32
  ![v477.toNat, 0, 183, 0]
def k0_off108 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v487 : Index := Scalar.indexCast v9
  let c0_436 : Index := 0#32
  let c184_437 : Index := 184#32
  let c0_438 : Index := 0#32
  ![v487.toNat, 0, 184, 0]
def k0_off109 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v492 : Index := Scalar.indexCast v9
  let c0_440 : Index := 0#32
  let c185_441 : Index := 185#32
  let c0_442 : Index := 0#32
  ![v492.toNat, 0, 185, 0]
def k0_off110 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v502 : Index := Scalar.indexCast v9
  let c1_446 : Index := 1#32
  let c359 : Index := 359#32
  let c0_447 : Index := 0#32
  ![v502.toNat, 1, 359, 0]
def k0_off111 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v511 : Index := Scalar.indexCast v9
  let c1_450 : Index := 1#32
  let c360 : Index := 360#32
  let c0_451 : Index := 0#32
  ![v511.toNat, 1, 360, 0]
def k0_off112 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v516 : Index := Scalar.indexCast v9
  let c1_453 : Index := 1#32
  let c361 : Index := 361#32
  let c0_454 : Index := 0#32
  ![v516.toNat, 1, 361, 0]
def k0_off113 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v660 : Index := Scalar.indexCast v9
  let c0_593 : Index := 0#32
  let c0_594 : Index := 0#32
  let c560 : Index := 560#32
  let c0_595 : Index := 0#32
  ![v660.toNat, 0, 0, 560, 0]
def k0_off114 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v667 : Index := Scalar.indexCast v9
  let c0_600 : Index := 0#32
  let c1_601 : Index := 1#32
  let c560_602 : Index := 560#32
  let c0_603 : Index := 0#32
  ![v667.toNat, 0, 1, 560, 0]
def k0_off115 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v674 : Index := Scalar.indexCast v9
  let c0_608 : Index := 0#32
  let c2_609 : Index := 2#32
  let c560_610 : Index := 560#32
  let c0_611 : Index := 0#32
  ![v674.toNat, 0, 2, 560, 0]
def k0_off116 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v681 : Index := Scalar.indexCast v9
  let c0_616 : Index := 0#32
  let c3_617 : Index := 3#32
  let c560_618 : Index := 560#32
  let c0_619 : Index := 0#32
  ![v681.toNat, 0, 3, 560, 0]
def k0_off117 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v688 : Index := Scalar.indexCast v9
  let c0_624 : Index := 0#32
  let c4_625 : Index := 4#32
  let c560_626 : Index := 560#32
  let c0_627 : Index := 0#32
  ![v688.toNat, 0, 4, 560, 0]
def k0_off118 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v695 : Index := Scalar.indexCast v9
  let c1_632 : Index := 1#32
  let c0_633 : Index := 0#32
  let c560_634 : Index := 560#32
  let c0_635 : Index := 0#32
  ![v695.toNat, 1, 0, 560, 0]
def k0_off119 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v702 : Index := Scalar.indexCast v9
  let c1_640 : Index := 1#32
  let c1_641 : Index := 1#32
  let c560_642 : Index := 560#32
  let c0_643 : Index := 0#32
  ![v702.toNat, 1, 1, 560, 0]
def k0_off120 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v709 : Index := Scalar.indexCast v9
  let c1_648 : Index := 1#32
  let c2_649 : Index := 2#32
  let c560_650 : Index := 560#32
  let c0_651 : Index := 0#32
  ![v709.toNat, 1, 2, 560, 0]
def k0_off121 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v716 : Index := Scalar.indexCast v9
  let c1_656 : Index := 1#32
  let c3_657 : Index := 3#32
  let c560_658 : Index := 560#32
  let c0_659 : Index := 0#32
  ![v716.toNat, 1, 3, 560, 0]
def k0_off122 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v723 : Index := Scalar.indexCast v9
  let c1_664 : Index := 1#32
  let c4_665 : Index := 4#32
  let c560_666 : Index := 560#32
  let c0_667 : Index := 0#32
  ![v723.toNat, 1, 4, 560, 0]
def k0_off123 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v730 : Index := Scalar.indexCast v9
  let c2_672 : Index := 2#32
  let c0_673 : Index := 0#32
  let c560_674 : Index := 560#32
  let c0_675 : Index := 0#32
  ![v730.toNat, 2, 0, 560, 0]
def k0_off124 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v737 : Index := Scalar.indexCast v9
  let c2_680 : Index := 2#32
  let c1_681 : Index := 1#32
  let c560_682 : Index := 560#32
  let c0_683 : Index := 0#32
  ![v737.toNat, 2, 1, 560, 0]
def k0_off125 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v744 : Index := Scalar.indexCast v9
  let c2_688 : Index := 2#32
  let c2_689 : Index := 2#32
  let c560_690 : Index := 560#32
  let c0_691 : Index := 0#32
  ![v744.toNat, 2, 2, 560, 0]
def k0_off126 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v751 : Index := Scalar.indexCast v9
  let c2_696 : Index := 2#32
  let c3_697 : Index := 3#32
  let c560_698 : Index := 560#32
  let c0_699 : Index := 0#32
  ![v751.toNat, 2, 3, 560, 0]
def k0_off127 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v758 : Index := Scalar.indexCast v9
  let c2_704 : Index := 2#32
  let c4_705 : Index := 4#32
  let c560_706 : Index := 560#32
  let c0_707 : Index := 0#32
  ![v758.toNat, 2, 4, 560, 0]
def k0_off128 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v765 : Index := Scalar.indexCast v9
  let c0_712 : Index := 0#32
  let c0_713 : Index := 0#32
  let c736 : Index := 736#32
  let c0_714 : Index := 0#32
  ![v765.toNat, 0, 0, 736, 0]
def k0_off129 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v772 : Index := Scalar.indexCast v9
  let c0_719 : Index := 0#32
  let c1_720 : Index := 1#32
  let c736_721 : Index := 736#32
  let c0_722 : Index := 0#32
  ![v772.toNat, 0, 1, 736, 0]
def k0_off130 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v779 : Index := Scalar.indexCast v9
  let c0_727 : Index := 0#32
  let c2_728 : Index := 2#32
  let c736_729 : Index := 736#32
  let c0_730 : Index := 0#32
  ![v779.toNat, 0, 2, 736, 0]
def k0_off131 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v786 : Index := Scalar.indexCast v9
  let c0_735 : Index := 0#32
  let c3_736 : Index := 3#32
  let c736_737 : Index := 736#32
  let c0_738 : Index := 0#32
  ![v786.toNat, 0, 3, 736, 0]
def k0_off132 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v793 : Index := Scalar.indexCast v9
  let c0_743 : Index := 0#32
  let c4_744 : Index := 4#32
  let c736_745 : Index := 736#32
  let c0_746 : Index := 0#32
  ![v793.toNat, 0, 4, 736, 0]
def k0_off133 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v800 : Index := Scalar.indexCast v9
  let c1_751 : Index := 1#32
  let c0_752 : Index := 0#32
  let c736_753 : Index := 736#32
  let c0_754 : Index := 0#32
  ![v800.toNat, 1, 0, 736, 0]
def k0_off134 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v807 : Index := Scalar.indexCast v9
  let c1_759 : Index := 1#32
  let c1_760 : Index := 1#32
  let c736_761 : Index := 736#32
  let c0_762 : Index := 0#32
  ![v807.toNat, 1, 1, 736, 0]
def k0_off135 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v814 : Index := Scalar.indexCast v9
  let c1_767 : Index := 1#32
  let c2_768 : Index := 2#32
  let c736_769 : Index := 736#32
  let c0_770 : Index := 0#32
  ![v814.toNat, 1, 2, 736, 0]
def k0_off136 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v821 : Index := Scalar.indexCast v9
  let c1_775 : Index := 1#32
  let c3_776 : Index := 3#32
  let c736_777 : Index := 736#32
  let c0_778 : Index := 0#32
  ![v821.toNat, 1, 3, 736, 0]
def k0_off137 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v828 : Index := Scalar.indexCast v9
  let c1_783 : Index := 1#32
  let c4_784 : Index := 4#32
  let c736_785 : Index := 736#32
  let c0_786 : Index := 0#32
  ![v828.toNat, 1, 4, 736, 0]
def k0_off138 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v835 : Index := Scalar.indexCast v9
  let c2_791 : Index := 2#32
  let c0_792 : Index := 0#32
  let c736_793 : Index := 736#32
  let c0_794 : Index := 0#32
  ![v835.toNat, 2, 0, 736, 0]
def k0_off139 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v842 : Index := Scalar.indexCast v9
  let c2_799 : Index := 2#32
  let c1_800 : Index := 1#32
  let c736_801 : Index := 736#32
  let c0_802 : Index := 0#32
  ![v842.toNat, 2, 1, 736, 0]
def k0_off140 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v849 : Index := Scalar.indexCast v9
  let c2_807 : Index := 2#32
  let c2_808 : Index := 2#32
  let c736_809 : Index := 736#32
  let c0_810 : Index := 0#32
  ![v849.toNat, 2, 2, 736, 0]
def k0_off141 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v856 : Index := Scalar.indexCast v9
  let c2_815 : Index := 2#32
  let c3_816 : Index := 3#32
  let c736_817 : Index := 736#32
  let c0_818 : Index := 0#32
  ![v856.toNat, 2, 3, 736, 0]
def k0_off142 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v863 : Index := Scalar.indexCast v9
  let c2_823 : Index := 2#32
  let c4_824 : Index := 4#32
  let c736_825 : Index := 736#32
  let c0_826 : Index := 0#32
  ![v863.toNat, 2, 4, 736, 0]
def k0_off143 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v891 : Index := Scalar.indexCast v9
  let c0_842 : Index := 0#32
  let c359_843 : Index := 359#32
  let c0_844 : Index := 0#32
  ![v891.toNat, 0, 359, 0]
def k0_off144 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v901 : Index := Scalar.indexCast v9
  let c0_848 : Index := 0#32
  let c360_849 : Index := 360#32
  let c0_850 : Index := 0#32
  ![v901.toNat, 0, 360, 0]
def k0_off145 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v906 : Index := Scalar.indexCast v9
  let c0_852 : Index := 0#32
  let c361_853 : Index := 361#32
  let c0_854 : Index := 0#32
  ![v906.toNat, 0, 361, 0]
def k0_off146 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v916 : Index := Scalar.indexCast v9
  let c1_858 : Index := 1#32
  let c535 : Index := 535#32
  let c0_859 : Index := 0#32
  ![v916.toNat, 1, 535, 0]
def k0_off147 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v925 : Index := Scalar.indexCast v9
  let c1_862 : Index := 1#32
  let c536 : Index := 536#32
  let c0_863 : Index := 0#32
  ![v925.toNat, 1, 536, 0]
def k0_off148 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v930 : Index := Scalar.indexCast v9
  let c1_865 : Index := 1#32
  let c537 : Index := 537#32
  let c0_866 : Index := 0#32
  ![v930.toNat, 1, 537, 0]
def k0_off149 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v971 : Index := Scalar.indexCast v9
  let c0_887 : Index := 0#32
  let c535_888 : Index := 535#32
  let c0_889 : Index := 0#32
  ![v971.toNat, 0, 535, 0]
def k0_off150 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v981 : Index := Scalar.indexCast v9
  let c0_893 : Index := 0#32
  let c536_894 : Index := 536#32
  let c0_895 : Index := 0#32
  ![v981.toNat, 0, 536, 0]
def k0_off151 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v986 : Index := Scalar.indexCast v9
  let c0_897 : Index := 0#32
  let c537_898 : Index := 537#32
  let c0_899 : Index := 0#32
  ![v986.toNat, 0, 537, 0]
def k0_off152 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v996 : Index := Scalar.indexCast v9
  let c1_903 : Index := 1#32
  let c711 : Index := 711#32
  let c0_904 : Index := 0#32
  ![v996.toNat, 1, 711, 0]
def k0_off153 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1005 : Index := Scalar.indexCast v9
  let c1_907 : Index := 1#32
  let c712 : Index := 712#32
  let c0_908 : Index := 0#32
  ![v1005.toNat, 1, 712, 0]
def k0_off154 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1010 : Index := Scalar.indexCast v9
  let c1_910 : Index := 1#32
  let c713 : Index := 713#32
  let c0_911 : Index := 0#32
  ![v1010.toNat, 1, 713, 0]
def k0_off155 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1154 : Index := Scalar.indexCast v9
  let c0_1049 : Index := 0#32
  let c0_1050 : Index := 0#32
  let c912 : Index := 912#32
  let c0_1051 : Index := 0#32
  ![v1154.toNat, 0, 0, 912, 0]
def k0_off156 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1161 : Index := Scalar.indexCast v9
  let c0_1056 : Index := 0#32
  let c1_1057 : Index := 1#32
  let c912_1058 : Index := 912#32
  let c0_1059 : Index := 0#32
  ![v1161.toNat, 0, 1, 912, 0]
def k0_off157 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1168 : Index := Scalar.indexCast v9
  let c0_1064 : Index := 0#32
  let c2_1065 : Index := 2#32
  let c912_1066 : Index := 912#32
  let c0_1067 : Index := 0#32
  ![v1168.toNat, 0, 2, 912, 0]
def k0_off158 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1175 : Index := Scalar.indexCast v9
  let c0_1072 : Index := 0#32
  let c3_1073 : Index := 3#32
  let c912_1074 : Index := 912#32
  let c0_1075 : Index := 0#32
  ![v1175.toNat, 0, 3, 912, 0]
def k0_off159 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1182 : Index := Scalar.indexCast v9
  let c0_1080 : Index := 0#32
  let c4_1081 : Index := 4#32
  let c912_1082 : Index := 912#32
  let c0_1083 : Index := 0#32
  ![v1182.toNat, 0, 4, 912, 0]
def k0_off160 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1189 : Index := Scalar.indexCast v9
  let c1_1088 : Index := 1#32
  let c0_1089 : Index := 0#32
  let c912_1090 : Index := 912#32
  let c0_1091 : Index := 0#32
  ![v1189.toNat, 1, 0, 912, 0]
def k0_off161 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1196 : Index := Scalar.indexCast v9
  let c1_1096 : Index := 1#32
  let c1_1097 : Index := 1#32
  let c912_1098 : Index := 912#32
  let c0_1099 : Index := 0#32
  ![v1196.toNat, 1, 1, 912, 0]
def k0_off162 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1203 : Index := Scalar.indexCast v9
  let c1_1104 : Index := 1#32
  let c2_1105 : Index := 2#32
  let c912_1106 : Index := 912#32
  let c0_1107 : Index := 0#32
  ![v1203.toNat, 1, 2, 912, 0]
def k0_off163 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1210 : Index := Scalar.indexCast v9
  let c1_1112 : Index := 1#32
  let c3_1113 : Index := 3#32
  let c912_1114 : Index := 912#32
  let c0_1115 : Index := 0#32
  ![v1210.toNat, 1, 3, 912, 0]
def k0_off164 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1217 : Index := Scalar.indexCast v9
  let c1_1120 : Index := 1#32
  let c4_1121 : Index := 4#32
  let c912_1122 : Index := 912#32
  let c0_1123 : Index := 0#32
  ![v1217.toNat, 1, 4, 912, 0]
def k0_off165 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1224 : Index := Scalar.indexCast v9
  let c2_1128 : Index := 2#32
  let c0_1129 : Index := 0#32
  let c912_1130 : Index := 912#32
  let c0_1131 : Index := 0#32
  ![v1224.toNat, 2, 0, 912, 0]
def k0_off166 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1231 : Index := Scalar.indexCast v9
  let c2_1136 : Index := 2#32
  let c1_1137 : Index := 1#32
  let c912_1138 : Index := 912#32
  let c0_1139 : Index := 0#32
  ![v1231.toNat, 2, 1, 912, 0]
def k0_off167 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1238 : Index := Scalar.indexCast v9
  let c2_1144 : Index := 2#32
  let c2_1145 : Index := 2#32
  let c912_1146 : Index := 912#32
  let c0_1147 : Index := 0#32
  ![v1238.toNat, 2, 2, 912, 0]
def k0_off168 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1245 : Index := Scalar.indexCast v9
  let c2_1152 : Index := 2#32
  let c3_1153 : Index := 3#32
  let c912_1154 : Index := 912#32
  let c0_1155 : Index := 0#32
  ![v1245.toNat, 2, 3, 912, 0]
def k0_off169 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1252 : Index := Scalar.indexCast v9
  let c2_1160 : Index := 2#32
  let c4_1161 : Index := 4#32
  let c912_1162 : Index := 912#32
  let c0_1163 : Index := 0#32
  ![v1252.toNat, 2, 4, 912, 0]
def k0_off170 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1259 : Index := Scalar.indexCast v9
  let c0_1168 : Index := 0#32
  let c0_1169 : Index := 0#32
  let c1088 : Index := 1088#32
  let c0_1170 : Index := 0#32
  ![v1259.toNat, 0, 0, 1088, 0]
def k0_off171 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1266 : Index := Scalar.indexCast v9
  let c0_1175 : Index := 0#32
  let c1_1176 : Index := 1#32
  let c1088_1177 : Index := 1088#32
  let c0_1178 : Index := 0#32
  ![v1266.toNat, 0, 1, 1088, 0]
def k0_off172 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1273 : Index := Scalar.indexCast v9
  let c0_1183 : Index := 0#32
  let c2_1184 : Index := 2#32
  let c1088_1185 : Index := 1088#32
  let c0_1186 : Index := 0#32
  ![v1273.toNat, 0, 2, 1088, 0]
def k0_off173 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1280 : Index := Scalar.indexCast v9
  let c0_1191 : Index := 0#32
  let c3_1192 : Index := 3#32
  let c1088_1193 : Index := 1088#32
  let c0_1194 : Index := 0#32
  ![v1280.toNat, 0, 3, 1088, 0]
def k0_off174 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1287 : Index := Scalar.indexCast v9
  let c0_1199 : Index := 0#32
  let c4_1200 : Index := 4#32
  let c1088_1201 : Index := 1088#32
  let c0_1202 : Index := 0#32
  ![v1287.toNat, 0, 4, 1088, 0]
def k0_off175 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1294 : Index := Scalar.indexCast v9
  let c1_1207 : Index := 1#32
  let c0_1208 : Index := 0#32
  let c1088_1209 : Index := 1088#32
  let c0_1210 : Index := 0#32
  ![v1294.toNat, 1, 0, 1088, 0]
def k0_off176 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1301 : Index := Scalar.indexCast v9
  let c1_1215 : Index := 1#32
  let c1_1216 : Index := 1#32
  let c1088_1217 : Index := 1088#32
  let c0_1218 : Index := 0#32
  ![v1301.toNat, 1, 1, 1088, 0]
def k0_off177 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1308 : Index := Scalar.indexCast v9
  let c1_1223 : Index := 1#32
  let c2_1224 : Index := 2#32
  let c1088_1225 : Index := 1088#32
  let c0_1226 : Index := 0#32
  ![v1308.toNat, 1, 2, 1088, 0]
def k0_off178 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1315 : Index := Scalar.indexCast v9
  let c1_1231 : Index := 1#32
  let c3_1232 : Index := 3#32
  let c1088_1233 : Index := 1088#32
  let c0_1234 : Index := 0#32
  ![v1315.toNat, 1, 3, 1088, 0]
def k0_off179 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1322 : Index := Scalar.indexCast v9
  let c1_1239 : Index := 1#32
  let c4_1240 : Index := 4#32
  let c1088_1241 : Index := 1088#32
  let c0_1242 : Index := 0#32
  ![v1322.toNat, 1, 4, 1088, 0]
def k0_off180 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1329 : Index := Scalar.indexCast v9
  let c2_1247 : Index := 2#32
  let c0_1248 : Index := 0#32
  let c1088_1249 : Index := 1088#32
  let c0_1250 : Index := 0#32
  ![v1329.toNat, 2, 0, 1088, 0]
def k0_off181 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1336 : Index := Scalar.indexCast v9
  let c2_1255 : Index := 2#32
  let c1_1256 : Index := 1#32
  let c1088_1257 : Index := 1088#32
  let c0_1258 : Index := 0#32
  ![v1336.toNat, 2, 1, 1088, 0]
def k0_off182 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1343 : Index := Scalar.indexCast v9
  let c2_1263 : Index := 2#32
  let c2_1264 : Index := 2#32
  let c1088_1265 : Index := 1088#32
  let c0_1266 : Index := 0#32
  ![v1343.toNat, 2, 2, 1088, 0]
def k0_off183 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1350 : Index := Scalar.indexCast v9
  let c2_1271 : Index := 2#32
  let c3_1272 : Index := 3#32
  let c1088_1273 : Index := 1088#32
  let c0_1274 : Index := 0#32
  ![v1350.toNat, 2, 3, 1088, 0]
def k0_off184 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1357 : Index := Scalar.indexCast v9
  let c2_1279 : Index := 2#32
  let c4_1280 : Index := 4#32
  let c1088_1281 : Index := 1088#32
  let c0_1282 : Index := 0#32
  ![v1357.toNat, 2, 4, 1088, 0]
def k0_off185 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1385 : Index := Scalar.indexCast v9
  let c0_1298 : Index := 0#32
  let c711_1299 : Index := 711#32
  let c0_1300 : Index := 0#32
  ![v1385.toNat, 0, 711, 0]
def k0_off186 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1395 : Index := Scalar.indexCast v9
  let c0_1304 : Index := 0#32
  let c712_1305 : Index := 712#32
  let c0_1306 : Index := 0#32
  ![v1395.toNat, 0, 712, 0]
def k0_off187 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1400 : Index := Scalar.indexCast v9
  let c0_1308 : Index := 0#32
  let c713_1309 : Index := 713#32
  let c0_1310 : Index := 0#32
  ![v1400.toNat, 0, 713, 0]
def k0_off188 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1410 : Index := Scalar.indexCast v9
  let c1_1314 : Index := 1#32
  let c887 : Index := 887#32
  let c0_1315 : Index := 0#32
  ![v1410.toNat, 1, 887, 0]
def k0_off189 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1419 : Index := Scalar.indexCast v9
  let c1_1318 : Index := 1#32
  let c888 : Index := 888#32
  let c0_1319 : Index := 0#32
  ![v1419.toNat, 1, 888, 0]
def k0_off190 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1424 : Index := Scalar.indexCast v9
  let c1_1321 : Index := 1#32
  let c889 : Index := 889#32
  let c0_1322 : Index := 0#32
  ![v1424.toNat, 1, 889, 0]
def k0_off191 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1465 : Index := Scalar.indexCast v9
  let c0_1343 : Index := 0#32
  let c887_1344 : Index := 887#32
  let c0_1345 : Index := 0#32
  ![v1465.toNat, 0, 887, 0]
def k0_off192 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1475 : Index := Scalar.indexCast v9
  let c0_1349 : Index := 0#32
  let c888_1350 : Index := 888#32
  let c0_1351 : Index := 0#32
  ![v1475.toNat, 0, 888, 0]
def k0_off193 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1480 : Index := Scalar.indexCast v9
  let c0_1353 : Index := 0#32
  let c889_1354 : Index := 889#32
  let c0_1355 : Index := 0#32
  ![v1480.toNat, 0, 889, 0]
def k0_off194 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1490 : Index := Scalar.indexCast v9
  let c1_1359 : Index := 1#32
  let c1063 : Index := 1063#32
  let c0_1360 : Index := 0#32
  ![v1490.toNat, 1, 1063, 0]
def k0_off195 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1499 : Index := Scalar.indexCast v9
  let c1_1363 : Index := 1#32
  let c1064 : Index := 1064#32
  let c0_1364 : Index := 0#32
  ![v1499.toNat, 1, 1064, 0]
def k0_off196 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1504 : Index := Scalar.indexCast v9
  let c1_1366 : Index := 1#32
  let c1065 : Index := 1065#32
  let c0_1367 : Index := 0#32
  ![v1504.toNat, 1, 1065, 0]
def k0_off197 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1648 : Index := Scalar.indexCast v9
  let c0_1505 : Index := 0#32
  let c0_1506 : Index := 0#32
  let c1264_1507 : Index := 1264#32
  let c0_1508 : Index := 0#32
  ![v1648.toNat, 0, 0, 1264, 0]
def k0_off198 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1655 : Index := Scalar.indexCast v9
  let c0_1513 : Index := 0#32
  let c1_1514 : Index := 1#32
  let c1264_1515 : Index := 1264#32
  let c0_1516 : Index := 0#32
  ![v1655.toNat, 0, 1, 1264, 0]
def k0_off199 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1662 : Index := Scalar.indexCast v9
  let c0_1521 : Index := 0#32
  let c2_1522 : Index := 2#32
  let c1264_1523 : Index := 1264#32
  let c0_1524 : Index := 0#32
  ![v1662.toNat, 0, 2, 1264, 0]
def k0_off200 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1669 : Index := Scalar.indexCast v9
  let c0_1529 : Index := 0#32
  let c3_1530 : Index := 3#32
  let c1264_1531 : Index := 1264#32
  let c0_1532 : Index := 0#32
  ![v1669.toNat, 0, 3, 1264, 0]
def k0_off201 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1676 : Index := Scalar.indexCast v9
  let c0_1537 : Index := 0#32
  let c4_1538 : Index := 4#32
  let c1264_1539 : Index := 1264#32
  let c0_1540 : Index := 0#32
  ![v1676.toNat, 0, 4, 1264, 0]
def k0_off202 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1683 : Index := Scalar.indexCast v9
  let c1_1545 : Index := 1#32
  let c0_1546 : Index := 0#32
  let c1264_1547 : Index := 1264#32
  let c0_1548 : Index := 0#32
  ![v1683.toNat, 1, 0, 1264, 0]
def k0_off203 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1690 : Index := Scalar.indexCast v9
  let c1_1553 : Index := 1#32
  let c1_1554 : Index := 1#32
  let c1264_1555 : Index := 1264#32
  let c0_1556 : Index := 0#32
  ![v1690.toNat, 1, 1, 1264, 0]
def k0_off204 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1697 : Index := Scalar.indexCast v9
  let c1_1561 : Index := 1#32
  let c2_1562 : Index := 2#32
  let c1264_1563 : Index := 1264#32
  let c0_1564 : Index := 0#32
  ![v1697.toNat, 1, 2, 1264, 0]
def k0_off205 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1704 : Index := Scalar.indexCast v9
  let c1_1569 : Index := 1#32
  let c3_1570 : Index := 3#32
  let c1264_1571 : Index := 1264#32
  let c0_1572 : Index := 0#32
  ![v1704.toNat, 1, 3, 1264, 0]
def k0_off206 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1711 : Index := Scalar.indexCast v9
  let c1_1577 : Index := 1#32
  let c4_1578 : Index := 4#32
  let c1264_1579 : Index := 1264#32
  let c0_1580 : Index := 0#32
  ![v1711.toNat, 1, 4, 1264, 0]
def k0_off207 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1718 : Index := Scalar.indexCast v9
  let c2_1585 : Index := 2#32
  let c0_1586 : Index := 0#32
  let c1264_1587 : Index := 1264#32
  let c0_1588 : Index := 0#32
  ![v1718.toNat, 2, 0, 1264, 0]
def k0_off208 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1725 : Index := Scalar.indexCast v9
  let c2_1593 : Index := 2#32
  let c1_1594 : Index := 1#32
  let c1264_1595 : Index := 1264#32
  let c0_1596 : Index := 0#32
  ![v1725.toNat, 2, 1, 1264, 0]
def k0_off209 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1732 : Index := Scalar.indexCast v9
  let c2_1601 : Index := 2#32
  let c2_1602 : Index := 2#32
  let c1264_1603 : Index := 1264#32
  let c0_1604 : Index := 0#32
  ![v1732.toNat, 2, 2, 1264, 0]
def k0_off210 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1739 : Index := Scalar.indexCast v9
  let c2_1609 : Index := 2#32
  let c3_1610 : Index := 3#32
  let c1264_1611 : Index := 1264#32
  let c0_1612 : Index := 0#32
  ![v1739.toNat, 2, 3, 1264, 0]
def k0_off211 (i : grid0.Coords) : Fin 5 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1746 : Index := Scalar.indexCast v9
  let c2_1617 : Index := 2#32
  let c4_1618 : Index := 4#32
  let c1264_1619 : Index := 1264#32
  let c0_1620 : Index := 0#32
  ![v1746.toNat, 2, 4, 1264, 0]
def k0_off212 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1753 : Index := Scalar.indexCast v11
  let c0_1625 : Index := 0#32
  let c0_1626 : Index := 0#32
  let c32_1627 : Index := 32#32
  let c0_1628 : Index := 0#32
  ![v1753.toNat, 0, 0, 32, 0]
def k0_off213 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1762 : Index := Scalar.indexCast v11
  let c0_1634 : Index := 0#32
  let c1_1635 : Index := 1#32
  let c32_1636 : Index := 32#32
  let c0_1637 : Index := 0#32
  ![v1762.toNat, 0, 1, 32, 0]
def k0_off214 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1771 : Index := Scalar.indexCast v11
  let c0_1643 : Index := 0#32
  let c2_1644 : Index := 2#32
  let c32_1645 : Index := 32#32
  let c0_1646 : Index := 0#32
  ![v1771.toNat, 0, 2, 32, 0]
def k0_off215 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1780 : Index := Scalar.indexCast v11
  let c0_1652 : Index := 0#32
  let c3_1653 : Index := 3#32
  let c32_1654 : Index := 32#32
  let c0_1655 : Index := 0#32
  ![v1780.toNat, 0, 3, 32, 0]
def k0_off216 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1789 : Index := Scalar.indexCast v11
  let c0_1661 : Index := 0#32
  let c4_1662 : Index := 4#32
  let c32_1663 : Index := 32#32
  let c0_1664 : Index := 0#32
  ![v1789.toNat, 0, 4, 32, 0]
def k0_off217 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1798 : Index := Scalar.indexCast v11
  let c1_1670 : Index := 1#32
  let c0_1671 : Index := 0#32
  let c32_1672 : Index := 32#32
  let c0_1673 : Index := 0#32
  ![v1798.toNat, 1, 0, 32, 0]
def k0_off218 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1807 : Index := Scalar.indexCast v11
  let c1_1679 : Index := 1#32
  let c1_1680 : Index := 1#32
  let c32_1681 : Index := 32#32
  let c0_1682 : Index := 0#32
  ![v1807.toNat, 1, 1, 32, 0]
def k0_off219 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1816 : Index := Scalar.indexCast v11
  let c1_1688 : Index := 1#32
  let c2_1689 : Index := 2#32
  let c32_1690 : Index := 32#32
  let c0_1691 : Index := 0#32
  ![v1816.toNat, 1, 2, 32, 0]
def k0_off220 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1825 : Index := Scalar.indexCast v11
  let c1_1697 : Index := 1#32
  let c3_1698 : Index := 3#32
  let c32_1699 : Index := 32#32
  let c0_1700 : Index := 0#32
  ![v1825.toNat, 1, 3, 32, 0]
def k0_off221 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1834 : Index := Scalar.indexCast v11
  let c1_1706 : Index := 1#32
  let c4_1707 : Index := 4#32
  let c32_1708 : Index := 32#32
  let c0_1709 : Index := 0#32
  ![v1834.toNat, 1, 4, 32, 0]
def k0_off222 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1843 : Index := Scalar.indexCast v11
  let c2_1715 : Index := 2#32
  let c0_1716 : Index := 0#32
  let c32_1717 : Index := 32#32
  let c0_1718 : Index := 0#32
  ![v1843.toNat, 2, 0, 32, 0]
def k0_off223 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1852 : Index := Scalar.indexCast v11
  let c2_1724 : Index := 2#32
  let c1_1725 : Index := 1#32
  let c32_1726 : Index := 32#32
  let c0_1727 : Index := 0#32
  ![v1852.toNat, 2, 1, 32, 0]
def k0_off224 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1861 : Index := Scalar.indexCast v11
  let c2_1733 : Index := 2#32
  let c2_1734 : Index := 2#32
  let c32_1735 : Index := 32#32
  let c0_1736 : Index := 0#32
  ![v1861.toNat, 2, 2, 32, 0]
def k0_off225 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1870 : Index := Scalar.indexCast v11
  let c2_1742 : Index := 2#32
  let c3_1743 : Index := 3#32
  let c32_1744 : Index := 32#32
  let c0_1745 : Index := 0#32
  ![v1870.toNat, 2, 3, 32, 0]
def k0_off226 (i : grid0.Coords) : Fin 5 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v1879 : Index := Scalar.indexCast v11
  let c2_1751 : Index := 2#32
  let c4_1752 : Index := 4#32
  let c32_1753 : Index := 32#32
  let c0_1754 : Index := 0#32
  ![v1879.toNat, 2, 4, 32, 0]
def k0_off227 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1909 : Index := Scalar.indexCast v9
  let c0_1771 : Index := 0#32
  let c1063_1772 : Index := 1063#32
  let c0_1773 : Index := 0#32
  ![v1909.toNat, 0, 1063, 0]
def k0_off228 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1919 : Index := Scalar.indexCast v9
  let c0_1777 : Index := 0#32
  let c1064_1778 : Index := 1064#32
  let c0_1779 : Index := 0#32
  ![v1919.toNat, 0, 1064, 0]
def k0_off229 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1924 : Index := Scalar.indexCast v9
  let c0_1781 : Index := 0#32
  let c1065_1782 : Index := 1065#32
  let c0_1783 : Index := 0#32
  ![v1924.toNat, 0, 1065, 0]
def k0_off230 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1934 : Index := Scalar.indexCast v9
  let c1_1787 : Index := 1#32
  let c1239_1788 : Index := 1239#32
  let c0_1789 : Index := 0#32
  ![v1934.toNat, 1, 1239, 0]
def k0_off231 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1943 : Index := Scalar.indexCast v9
  let c1_1792 : Index := 1#32
  let c1240_1793 : Index := 1240#32
  let c0_1794 : Index := 0#32
  ![v1943.toNat, 1, 1240, 0]
def k0_off232 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1948 : Index := Scalar.indexCast v9
  let c1_1796 : Index := 1#32
  let c1241_1797 : Index := 1241#32
  let c0_1798 : Index := 0#32
  ![v1948.toNat, 1, 1241, 0]
def k0_off233 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1989 : Index := Scalar.indexCast v9
  let c0_1819 : Index := 0#32
  let c1239_1820 : Index := 1239#32
  let c0_1821 : Index := 0#32
  ![v1989.toNat, 0, 1239, 0]
def k0_off234 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v1999 : Index := Scalar.indexCast v9
  let c0_1825 : Index := 0#32
  let c1240_1826 : Index := 1240#32
  let c0_1827 : Index := 0#32
  ![v1999.toNat, 0, 1240, 0]
def k0_off235 (i : grid0.Coords) : Fin 4 → Nat :=
  let arg0 : BitVec 32 := BitVec.ofNat 32 (i 0).val
  let c1_i32 : BitVec 32 := 1#32
  let v8 : BitVec 32 := Scalar.subi arg0 c1_i32
  let c3_i32 : BitVec 32 := 3#32
  let v9 : BitVec 32 := Scalar.remsi v8 c3_i32
  let v2004 : Index := Scalar.indexCast v9
  let c0_1829 : Index := 0#32
  let c1241_1830 : Index := 1241#32
  let c0_1831 : Index := 0#32
  ![v2004.toNat, 0, 1241, 0]
def k0_off236 (i : grid0.Coords) : Fin 4 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v2014 : Index := Scalar.indexCast v11
  let c1_1835 : Index := 1#32
  let c7_1836 : Index := 7#32
  let c0_1837 : Index := 0#32
  ![v2014.toNat, 1, 7, 0]
def k0_off237 (i : grid0.Coords) : Fin 4 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v2025 : Index := Scalar.indexCast v11
  let c1_1841 : Index := 1#32
  let c8_1842 : Index := 8#32
  let c0_1843 : Index := 0#32
  ![v2025.toNat, 1, 8, 0]
def k0_off238 (i : grid0.Coords) : Fin 4 → Nat :=
  let arg0 : BitVec 32 := BitVec.ofNat 32 (i 0).val
  let c1_i32 : BitVec 32 := 1#32
  let v8 : BitVec 32 := Scalar.subi arg0 c1_i32
  let c1_i32_4 : BitVec 32 := 1#32
  let v10 : BitVec 32 := Scalar.addi v8 c1_i32_4
  let c3_i32_5 : BitVec 32 := 3#32
  let v11 : BitVec 32 := Scalar.remsi v10 c3_i32_5
  let v2032 : Index := Scalar.indexCast v11
  let c1_1846 : Index := 1#32
  let c9_1847 : Index := 9#32
  let c0_1848 : Index := 0#32
  ![v2032.toNat, 1, 9, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1408x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5760x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1408x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1408x640 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x2 : Shape := ⟨2, ![1, 2]⟩
abbrev S2x256x176x640 : Shape := ⟨4, ![2, 256, 176, 640]⟩
abbrev S3x3x640x1280 : Shape := ⟨4, ![3, 3, 640, 1280]⟩
abbrev S1280 : Shape := ⟨1, ![1280]⟩
abbrev S3x3x640x20 : Shape := ⟨4, ![3, 3, 640, 20]⟩
abbrev S20x1280 : Shape := ⟨2, ![20, 1280]⟩
abbrev S1x1280 : Shape := ⟨2, ![1, 1280]⟩
abbrev S90112x1280 : Shape := ⟨2, ![90112, 1280]⟩
abbrev S90112x640 : Shape := ⟨2, ![90112, 640]⟩
abbrev S1x1 : Shape := ⟨2, ![1, 1]⟩
abbrev S2x1x176x640 : Shape := ⟨4, ![2, 1, 176, 640]⟩
abbrev S2x257x176x640 : Shape := ⟨4, ![2, 257, 176, 640]⟩
abbrev S2x258x176x640 : Shape := ⟨4, ![2, 258, 176, 640]⟩
abbrev S2x258x1x640 : Shape := ⟨4, ![2, 258, 1, 640]⟩
abbrev S2x258x177x640 : Shape := ⟨4, ![2, 258, 177, 640]⟩
abbrev S2x258x178x640 : Shape := ⟨4, ![2, 258, 178, 640]⟩
abbrev S90112x20 : Shape := ⟨2, ![90112, 20]⟩
abbrev S1x1x640x1280 : Shape := ⟨4, ![1, 1, 640, 1280]⟩
abbrev S640x1280 : Shape := ⟨2, ![640, 1280]⟩
abbrev S1x1x640x20 : Shape := ⟨4, ![1, 1, 640, 20]⟩
abbrev S640x20 : Shape := ⟨2, ![640, 20]⟩

abbrev nBuf : Space → Nat
  | .hbm => 11
  | .vmem => 8
  | .smem => 1
  | _ => 0

abbrev bufTy : (tb : Table) → Fin (tcTables nBuf tb) → BufTy
  | .hbm, ⟨0, _⟩ => ⟨S1x2, .f32⟩
  | .hbm, ⟨1, _⟩ => ⟨S2x256x176x640, .bf16⟩
  | .hbm, ⟨2, _⟩ => ⟨S3x3x640x1280, .fp8e4m3⟩
  | .hbm, ⟨3, _⟩ => ⟨S1280, .f32⟩
  | .hbm, ⟨4, _⟩ => ⟨S1280, .f32⟩
  | .hbm, ⟨5, _⟩ => ⟨S3x3x640x20, .bf16⟩
  | .hbm, ⟨6, _⟩ => ⟨S20x1280, .bf16⟩
  | .hbm, ⟨7, _⟩ => ⟨S1x1280, .f32⟩
  | .hbm, ⟨8, _⟩ => ⟨S1x1280, .f32⟩
  | .hbm, ⟨9, _⟩ => ⟨S90112x1280, .bf16⟩
  | .hbm, ⟨10, _⟩ => ⟨S90112x640, .fp8e4m3⟩
  | .local _ .vmem, ⟨0, _⟩ => ⟨S2x256x176x640, .bf16⟩
  | .local _ .vmem, ⟨1, _⟩ => ⟨S3x3x640x1280, .fp8e4m3⟩
  | .local _ .vmem, ⟨2, _⟩ => ⟨S1x1280, .f32⟩
  | .local _ .vmem, ⟨3, _⟩ => ⟨S1x1280, .f32⟩
  | .local _ .vmem, ⟨4, _⟩ => ⟨S3x3x640x20, .bf16⟩
  | .local _ .vmem, ⟨5, _⟩ => ⟨S20x1280, .bf16⟩
  | .local _ .vmem, ⟨6, _⟩ => ⟨S90112x1280, .bf16⟩
  | .local _ .vmem, ⟨7, _⟩ => ⟨S90112x640, .fp8e4m3⟩
  | .local _ .smem, ⟨0, _⟩ => ⟨S1x2, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x176x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x640x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x640x20 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S90112x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S90112x640 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Phases.lean ====
/-
  The convolution's body at one grid point, in its two phases: the first quantises a block of rows into the ring, the second
  computes the results of the block before it from the ring.
-/
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The ring of code planes and the ring of low-rank products, whole. -/
abbrev ringM : Memref sig .tc .vmem S3x3x5x1472x128 .fp8e4m3 := Memref.whole cc0_scratch0
abbrev lowM : Memref sig .tc .vmem S3x2x1424x128 .f32 := Memref.whole cc0_scratch1
/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxRecDepth 65536 in
/-- Phase 1 of the body. -/
def phase1 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) (arg0 : BitVec 32) (v1 : Elt F .f32) (k0_h1 : k0_cond1 i = 1#1) (k : Prog (TpuEff nD τ sig (Elt F) Λ₀ .tc) PUnit) :
    Prog (TpuEff nD τ sig (Elt F) Λ₀ .tc) PUnit := do
  let ⟨v8, v18, v35⟩ : Σ' (v8 : BitVec 32) (v18 : FVec F S1408x640 .fp8e4m3), FVec F S1408x128 .fp8e4m3 ← k0_part1 i arg1 harg1 arg2 harg2 arg3 harg3 arg4 harg4 arg5 harg5 arg6 harg6 arg7 harg7 arg8 harg8 arg9 harg9 arg10 harg10 arg11 harg11 arg0 v1 k0_h1
  let v65 : FVec F S1408x128 .fp8e4m3 ← k0_part2 i arg1 harg1 arg2 harg2 arg3 harg3 arg4 harg4 arg5 harg5 arg6 harg6 arg7 harg7 arg8 harg8 arg9 harg9 arg10 harg10 arg11 harg11 k0_h1 v8 v18 v35
  k0_part3 i arg1 harg1 arg2 harg2 arg3 harg3 arg4 harg4 arg5 harg5 arg6 harg6 arg7 harg7 arg8 harg8 arg9 harg9 arg10 harg10 arg11 harg11 k0_h1 v8 v18 v65
  let ⟨v113, v115, v130, v132⟩ : Σ' (v113 : IVec S1408x128 1) (v115 : IVec S1408x128 1) (v130 : FVec F S1408x128 .fp8e4m3), FVec F S1408x128 .fp8e4m3 ← k0_part4 i arg1 harg1 arg2 harg2 arg3 harg3 arg4 harg4 arg5 harg5 arg6 harg6 arg7 harg7 arg8 harg8 arg9 harg9 arg10 harg10 arg11 harg11 k0_h1 v8
  let ⟨v157, cst_116⟩ : Σ' (v157 : FVec F S1408x128 .fp8e4m3), F .fp8e4m3 ← k0_part5 i arg1 harg1 arg2 harg2 arg3 harg3 arg4 harg4 arg5 harg5 arg6 harg6 arg7 harg7 arg8 harg8 arg9 harg9 arg10 harg10 arg11 harg11 k0_h1 v8 v113 v115 v130 v132
  let v192 : FVec F S1408x128 .fp8e4m3 ← k0_part6 i arg1 harg1 arg2 harg2 arg3 harg3 arg4 harg4 arg5 harg5 arg6 harg6 arg7 harg7 arg8 harg8 arg9 harg9 arg10 harg10 arg11 harg11 k0_h1 v8 v113 v115 v157 cst_116
  let v226 : FVec F S1408x128 .fp8e4m3 ← k0_part7 i arg1 harg1 arg2 harg2 arg3 harg3 arg4 harg4 arg5 harg5 arg6 harg6 arg7 harg7 arg8 harg8 arg9 harg9 arg10 harg10 arg11 harg11 k0_h1 v8 v113 v115 v192
  let v254 : FVec F S1408x256 .f32 ← k0_part8 i arg1 harg1 arg2 harg2 arg3 harg3 arg4 harg4 arg5 harg5 arg6 harg6 arg7 harg7 arg8 harg8 arg9 harg9 arg10 harg10 arg11 harg11 k0_h1 v8 v18 v113 v115 v226
  let v262 : Vec F S1x1x1408x128 .f32 ← Prog.lift (.load arg11 (Rect.unit (s := S3x2x1424x128) (k0_off37 i) S1x1x1408x128.size (k0_off37_inb i k0_h1)).toLoadRect (View.loadsAt_vmem h_S1x1x1408x128))
  Prog.lift (.store arg11 (Rect.unit (s := S3x2x1424x128) (k0_off37 i) S1x1x1408x128.size (k0_off37_inb i k0_h1)) (k0_pay1 v254) Finset.univ (View.stores_vmem_bits_univ h_S1x1x1408x128 rfl) (.inl rfl))
  k

set_option maxRecDepth 65536 in
/-- Phase 2 of the body. -/
def phase2 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) (arg0 : BitVec 32) (v0 : Elt F .f32) (k0_h2 : k0_cond2 i = 1#1) (k : Prog (TpuEff nD τ sig (Elt F) Λ₀ .tc) PUnit) :
    Prog (TpuEff nD τ sig (Elt F) Λ₀ .tc) PUnit := do
  let ⟨v9, v11, v17, v19, v21, v1546, v1553, v1560, v1567, v1574, v1581, v1588, v1595, v1602, v1609, v1616, v1623, v1630, v1637, v1644, v1651, v1658, v1665, v1672, v1679, v1686, v1693, v1700, v1707, v1714, v1721, v1728, v1735, v1742, v1749, v1758, v1767, v1776, v1785, v1794, v1803, v1812, v1821, v1830, v1839, v1842⟩ : Σ' (v9 : BitVec 32) (v11 : BitVec 32) (v17 : BitVec 1) (v19 : FVec F S1x1280 .f32) (v21 : FVec F S1x1280 .f32) (v1546 : FVec F S352x128 .fp8e4m3) (v1553 : FVec F S352x128 .fp8e4m3) (v1560 : FVec F S352x128 .fp8e4m3) (v1567 : FVec F S352x128 .fp8e4m3) (v1574 : FVec F S352x128 .fp8e4m3) (v1581 : FVec F S352x128 .fp8e4m3) (v1588 : FVec F S352x128 .fp8e4m3) (v1595 : FVec F S352x128 .fp8e4m3) (v1602 : FVec F S352x128 .fp8e4m3) (v1609 : FVec F S352x128 .fp8e4m3) (v1616 : FVec F S352x128 .fp8e4m3) (v1623 : FVec F S352x128 .fp8e4m3) (v1630 : FVec F S352x128 .fp8e4m3) (v1637 : FVec F S352x128 .fp8e4m3) (v1644 : FVec F S352x128 .fp8e4m3) (v1651 : FVec F S352x128 .fp8e4m3) (v1658 : FVec F S352x128 .fp8e4m3) (v1665 : FVec F S352x128 .fp8e4m3) (v1672 : FVec F S352x128 .fp8e4m3) (v1679 : FVec F S352x128 .fp8e4m3) (v1686 : FVec F S352x128 .fp8e4m3) (v1693 : FVec F S352x128 .fp8e4m3) (v1700 : FVec F S352x128 .fp8e4m3) (v1707 : FVec F S352x128 .fp8e4m3) (v1714 : FVec F S352x128 .fp8e4m3) (v1721 : FVec F S352x128 .fp8e4m3) (v1728 : FVec F S352x128 .fp8e4m3) (v1735 : FVec F S352x128 .fp8e4m3) (v1742 : FVec F S352x128 .fp8e4m3) (v1749 : FVec F S352x128 .fp8e4m3) (v1758 : FVec F S352x128 .fp8e4m3) (v1767 : FVec F S352x128 .fp8e4m3) (v1776 : FVec F S352x128 .fp8e4m3) (v1785 : FVec F S352x128 .fp8e4m3) (v1794 : FVec F S352x128 .fp8e4m3) (v1803 : FVec F S352x128 .fp8e4m3) (v1812 : FVec F S352x128 .fp8e4m3) (v1821 : FVec F S352x128 .fp8e4m3) (v1830 : FVec F S352x128 .fp8e4m3) (v1839 : FVec F S352x128 .fp8e4m3), FVec F S176x128 .fp8e4m3 ← k0_part75 i arg1 harg1 arg2 harg2 arg3 harg3 arg4 harg4 arg5 harg5 arg6 harg6 arg7 harg7 arg8 harg8 arg9 harg9 arg10 harg10 arg11 harg11 arg0 v0 k0_h2
  let ⟨v1848, v1857, v1866, v1869, v1872⟩ : Σ' (v1848 : FVec F S352x128 .fp8e4m3) (v1857 : FVec F S352x128 .fp8e4m3) (v1866 : FVec F S352x128 .fp8e4m3) (v1869 : FVec F S176x128 .fp8e4m3), FVec F S176x128 .fp8e4m3 ← k0_part69 i arg1 harg1 arg2 harg2 arg3 harg3 arg4 harg4 arg5 harg5 arg6 harg6 arg7 harg7 arg8 harg8 arg9 harg9 arg10 harg10 arg11 harg11 k0_h2 v9 v11 v17 v1842
  let ⟨v1885, v1898, v1907⟩ : Σ' (v1885 : FVec F S352x5760 .fp8e4m3) (v1898 : FVec F S176x128 .f32), FVec F S176x128 .f32 ← k0_part70 i arg1 harg1 arg2 harg2 arg3 harg3 arg4 harg4 arg5 harg5 arg6 harg6 arg7 harg7 arg8 harg8 arg9 harg9 arg10 harg10 arg11 harg11 k0_h2 v9 v11 v17 v1546 v1553 v1560 v1567 v1574 v1581 v1588 v1595 v1602 v1609 v1616 v1623 v1630 v1637 v1644 v1651 v1658 v1665 v1672 v1679 v1686 v1693 v1700 v1707 v1714 v1721 v1728 v1735 v1742 v1749 v1758 v1767 v1776 v1785 v1794 v1803 v1812 v1821 v1830 v1839 v1848 v1857 v1866 v1869 v1872
  let v1942 : FVec F S176x128 .f32 ← k0_part71 i arg1 harg1 arg2 harg2 arg3 harg3 arg4 harg4 arg5 harg5 arg6 harg6 arg7 harg7 arg8 harg8 arg9 harg9 arg10 harg10 arg11 harg11 k0_h2 v9 v1898 v1907
  let ⟨v1965, v1978, v1981, v1982⟩ : Σ' (v1965 : FVec F S176x128 .bf16) (v1978 : FVec F S176x128 .f32) (v1981 : FVec F S176x128 .f32), IVec S176x128 32 ← k0_part72 i arg1 harg1 arg2 harg2 arg3 harg3 arg4 harg4 arg5 harg5 arg6 harg6 arg7 harg7 arg8 harg8 arg9 harg9 arg10 harg10 arg11 harg11 v0 k0_h2 v9 v1942
  let ⟨v2013, v2018, v2019⟩ : Σ' (v2013 : FVec F S176x128 .f32) (v2018 : FVec F S176x128 .f32), IVec S176x128 32 ← k0_part73 i arg1 harg1 arg2 harg2 arg3 harg3 arg4 harg4 arg5 harg5 arg6 harg6 arg7 harg7 arg8 harg8 arg9 harg9 arg10 harg10 arg11 harg11 k0_h2 v9 v11 v17 v1978 v1981 v1982
  let ⟨v2055, v2057, cst_1860⟩ : Σ' (v2055 : FVec F S352x1280 .f32) (v2057 : FVec F S5760x1280 .fp8e4m3), FVec F S352x1280 .f32 ← k0_part74 i arg1 harg1 arg2 harg2 arg3 harg3 arg4 harg4 arg5 harg5 arg6 harg6 arg7 harg7 arg8 harg8 arg9 harg9 arg10 harg10 arg11 harg11 v0 k0_h2 v11 v17 v1965 v2013 v2018 v2019
  let v2069 : Vec F S352x1280 .bf16 ← Prog.lift (.load arg8 (Rect.unit (s := S1408x1280) ![1056, 0] S352x1280.size inb_S1408x1280_S352x1280_1056_0).toLoadRect (View.loadsAt_vmem h_S352x1280))
  Prog.lift (.store arg8 (Rect.unit (s := S1408x1280) ![1056, 0] S352x1280.size inb_S1408x1280_S352x1280_1056_0) (k0_pay2 v0 v19 v21 v1885 v2055 v2057 cst_1860) Finset.univ (View.stores_vmem h_S352x1280 (harg8.storeExact_slice rfl _ packedbf16_S1408x1280_S352x1280_1056_0) (fun _ => rfl)) (.inl rfl))
  k

/-- The body: the two scales, then each phase under its condition. -/
def conv2 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) : Prog (TpuEff nD τ sig (Elt F) Λ₀ .tc) PUnit := do
  let arg0 : BitVec 32 := BitVec.ofNat 32 (i 0).val
  let v0 : Elt F .f32 ← smemLoad arg1 (Rect.unit (s := S1x2) ![0, 0] S1x1.size inb_S1x2_S1x1_0_0) numel1_S1x1 rfl
  let v1 : Elt F .f32 ← smemLoad arg1 (Rect.unit (s := S1x2) ![0, 1] S1x1.size inb_S1x2_S1x1_0_1) numel1_S1x1 rfl
  if k0_h1 : k0_cond1 i = 1#1 then phase1 i arg1 harg1 arg2 harg2 arg3 harg3 arg4 harg4 arg5 harg5 arg6 harg6 arg7 harg7 arg8 harg8 arg9 harg9 arg10 harg10 arg11 harg11 arg0 v1 k0_h1 ((if k0_h2 : k0_cond2 i = 1#1 then phase2 i arg1 harg1 arg2 harg2 arg3 harg3 arg4 harg4 arg5 harg5 arg6 harg6 arg7 harg7 arg8 harg8 arg9 harg9 arg10 harg10 arg11 harg11 arg0 v0 k0_h2 (pure ⟨⟩) else pure ⟨⟩))
  else (if k0_h2 : k0_cond2 i = 1#1 then phase2 i arg1 harg1 arg2 harg2 arg3 harg3 arg4 harg4 arg5 harg5 arg6 harg6 arg7 harg7 arg8 harg8 arg9 harg9 arg10 harg10 arg11 harg11 arg0 v0 k0_h2 (pure ⟨⟩) else pure ⟨⟩)

set_option maxRecDepth 65536 in
theorem conv_eq : cc0_conv (F := F) = conv2 (F := F) := cc0_conv_eq_skeleton.trans rfl

attribute [irreducible] phase1 phase2

end Cert.Kernel.Hand

end
-- ==== Proof.Kernel.Run1.lean ====
/-
  The convolution's body at one grid point, in its two phases: the first quantises a block of rows into the ring, the second
  computes the results of the block before it from the ring.
-/
module

public import proofs.«01_k».proof.Proof.Gen.Kernel.Frame
public import proofs.«01_k».proof.Proof.Gen.Kernel.Skeleton
public import proofs.«01_k».proof.Proof.Kernel.Phases
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What phase 1 leaves, as lists of stores over whatever the three buffers held — the ring of code planes, the ring of
    low-rank products, the codes' window —, with the triple that says so. -/
def run1 (c : Dev nD) (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg0 : BitVec 32) (v1 : Elt F .f32) (k0_h1 : k0_cond1 i = 1#1)
    (X2 : Vec F S1408x640 .bf16) (X6 : Vec F S640x256 .bf16) :
    { W : List (View.Piece (Elt F) S3x3x5x1472x128 .fp8e4m3) × List (View.Piece (Elt F) S3x2x1424x128 .f32) × List (View.Piece (Elt F) S1408x640 .fp8e4m3) //
      ∀ (f10 : Buf (Elt F) (ringM.view.loc (c : Thread nD τ))) (f11 : Buf (Elt F) (lowM.view.loc (c : Thread nD τ))) (k : Prog (TpuEff nD τ sig (Elt F) Λ₀ .tc) PUnit) (E : Set ℕ) (K : PUnit → sProp 𝕄),
        iprop(owns (c : Thread nD τ) arg2 fullShare X2 ∗ owns (c : Thread nD τ) arg6 fullShare X6 ∗ (∃ d, owns (c : Thread nD τ) arg9 fullShare d) ∗ pt c ringM f10 ∗ pt c lowM f11
          ∗ (iprop(owns (c : Thread nD τ) arg2 fullShare X2 ∗ owns (c : Thread nD τ) arg6 fullShare X6 ∗ (∃ f, arg9.view.loc (c : Thread nD τ) ↦[arg9.view.set]{fullShare} arg9.view.writes (Elt F) f W.2.2) ∗ pt c ringM (ringM.view.writes (Elt F) f10 W.1) ∗ pt c lowM (lowM.view.writes (Elt F) f11 W.2.1))
              -∗ wp frame (wpE (defs₀ (F := F)) Variants.none c none) E k K))
        ⊢ wp frame (wpE (defs₀ (F := F)) Variants.none c none) E (phase1 i arg1 harg1 arg2 harg2 arg3 harg3 arg4 harg4 arg5 harg5 arg6 harg6 arg7 harg7 arg8 harg8 arg9 harg9 ringM (Memref.isWhole_whole _) lowM (Memref.isWhole_whole _) arg0 v1 k0_h1 k) K } := by
  refine ⟨⟨?_, ?_, ?_⟩, fun f10 f11 k E K => ?run⟩
  case run =>
    unfold phase1
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f6, %hf6, H6⟩, ⟨%d9, %f9, -, H9⟩, H10, H11, Hk⟩
    obtain rfl := harg2.eq_unread hf2; obtain rfl := harg6.eq_unread hf6
    sl_exec
    iapply Hk
    isplitl [H2]
    · iexists _; isplitr; · ipureintro; exact harg2.read_unread _
      iexact H2
    isplitl [H6]
    · iexists _; isplitr; · ipureintro; exact harg6.read_unread _
      iexact H6
    isplitl [H9]; · iexists _; iexact H9
    isplitl [H10]; · iexact H10
    iexact H11

end Cert.Kernel.Hand

end
-- ==== Proof.Kernel.Run2.lean ====
/-
  The convolution's body at one grid point, in its two phases: the first quantises a block of rows into the ring, the second
  computes the results of the block before it from the ring.
-/
module

public import proofs.«01_k».proof.Proof.Gen.Kernel.Frame
public import proofs.«01_k».proof.Proof.Gen.Kernel.Skeleton
public import proofs.«01_k».proof.Proof.Kernel.Phases
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What phase 2 leaves in the results' window, as a list of stores, with the triple that says so. -/
def run2 (c : Dev nD) (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg0 : BitVec 32) (v0 : Elt F .f32) (k0_h2 : k0_cond2 i = 1#1)
    (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) :
    { W : List (View.Piece (Elt F) S1408x1280 .bf16) //
      ∀ (k : Prog (TpuEff nD τ sig (Elt F) Λ₀ .tc) PUnit) (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg7 fullShare X7 ∗ (∃ d, owns (c : Thread nD τ) arg8 fullShare d) ∗ pt c ringM f10 ∗ pt c lowM f11
          ∗ (iprop(owns (c : Thread nD τ) arg3 fullShare X3 ∗ owns (c : Thread nD τ) arg4 fullShare X4 ∗ owns (c : Thread nD τ) arg5 fullShare X5 ∗ owns (c : Thread nD τ) arg7 fullShare X7 ∗ (∃ f, arg8.view.loc (c : Thread nD τ) ↦[arg8.view.set]{fullShare} arg8.view.writes (Elt F) f W) ∗ pt c ringM f10 ∗ pt c lowM f11)
              -∗ wp frame (wpE (defs₀ (F := F)) Variants.none c none) E k K))
        ⊢ wp frame (wpE (defs₀ (F := F)) Variants.none c none) E (phase2 i arg1 harg1 arg2 harg2 arg3 harg3 arg4 harg4 arg5 harg5 arg6 harg6 arg7 harg7 arg8 harg8 arg9 harg9 ringM (Memref.isWhole_whole _) lowM (Memref.isWhole_whole _) arg0 v0 k0_h2 k) K } := by
  refine ⟨?_, fun k E K => ?run⟩
  case run =>
    unfold phase2
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f3, %hf3, H3⟩, ⟨%f4, %hf4, H4⟩, ⟨%f5, %hf5, H5⟩, ⟨%f7, %hf7, H7⟩, ⟨%d8, %f8, -, H8⟩, H10, H11, Hk⟩
    obtain rfl := harg3.eq_unread hf3; obtain rfl := harg4.eq_unread hf4; obtain rfl := harg5.eq_unread hf5; obtain rfl := harg7.eq_unread hf7
    sl_exec
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]; · iexists _; iexact H8
    isplitl [H10]; · iexact H10
    iexact H11

end Cert.Kernel.Hand

end
-- ==== Proof.Kernel.Core.lean ====
/-
  The convolution's body at one grid point: what it leaves in the two rings and in its two windows, from what the rings held.
-/
module

public import proofs.«01_k».proof.Proof.Gen.Kernel.Frame
public import proofs.«01_k».proof.Proof.Gen.Kernel.Skeleton
public import proofs.«01_k».proof.Proof.Kernel.Run1
public import proofs.«01_k».proof.Proof.Kernel.Run2
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev ms0 (t : Fin cfg0.N) : Memref sig .tc .smem S1x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1408x640 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S5760x1280 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1280 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1280 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1280 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1408x1280 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1408x640 .fp8e4m3 := win0_8.stage (cfg0.slots t 8)
abbrev hs8 (t : Fin cfg0.N) : (ms8 t).IsWhole := hstage0_8 ((cfg0.slots t 8).cast nbuf0_8)

/-- The two scales as the body loads them. -/
def sc0 (t : Fin cfg0.N) (X : Vec F S1x2 .f32) : Elt F .f32 :=
  View.readAt (Elt F) (ms0 t).view (Rect.unit (s := S1x2) ![0, 0] S1x1.size inb_S1x2_S1x1_0_0).toLoadRect ((hs0 t).unread X) (Shape.Idx.first (s := S1x1) (by decide))
def sc1 (t : Fin cfg0.N) (X : Vec F S1x2 .f32) : Elt F .f32 :=
  View.readAt (Elt F) (ms0 t).view (Rect.unit (s := S1x2) ![0, 1] S1x1.size inb_S1x2_S1x1_0_1).toLoadRect ((hs0 t).unread X) (Shape.Idx.first (s := S1x1) (by decide))

abbrev R1 (c : Dev nD) (t : Fin cfg0.N) (h1 : k0_cond1 (grid0.coords t) = 1#1) (X1 : Vec F S1x2 .f32) (X2 : Vec F S1408x640 .bf16) (X6 : Vec F S640x256 .bf16) :=
  run1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6
abbrev R2 (c : Dev nD) (t : Fin cfg0.N) (h2 : k0_cond2 (grid0.coords t) = 1#1) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) :=
  run2 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 f10 f11

/-- The ring of code planes after point `t`. -/
def ring1 (c : Dev nD) (t : Fin cfg0.N) (X1 : Vec F S1x2 .f32) (X2 : Vec F S1408x640 .bf16) (X6 : Vec F S640x256 .bf16) (f10 : Buf (Elt F) (ringM.view.loc (c : Thread nD τ))) : Buf (Elt F) (ringM.view.loc (c : Thread nD τ)) :=
  if h1 : k0_cond1 (grid0.coords t) = 1#1 then ringM.view.writes (Elt F) f10 (R1 c t h1 X1 X2 X6).1.1 else f10
/-- The ring of low-rank products after point `t`. -/
def low1 (c : Dev nD) (t : Fin cfg0.N) (X1 : Vec F S1x2 .f32) (X2 : Vec F S1408x640 .bf16) (X6 : Vec F S640x256 .bf16) (f11 : Buf (Elt F) (lowM.view.loc (c : Thread nD τ))) : Buf (Elt F) (lowM.view.loc (c : Thread nD τ)) :=
  if h1 : k0_cond1 (grid0.coords t) = 1#1 then lowM.view.writes (Elt F) f11 (R1 c t h1 X1 X2 X6).1.2.1 else f11
/-- The codes' window after point `t`, from what it held. -/
def codes1 (c : Dev nD) (t : Fin cfg0.N) (X1 : Vec F S1x2 .f32) (X2 : Vec F S1408x640 .bf16) (X6 : Vec F S640x256 .bf16) (d : Vec F S1408x640 .fp8e4m3) : Vec F S1408x640 .fp8e4m3 :=
  if h1 : k0_cond1 (grid0.coords t) = 1#1 then (ms8 t).view.read (Elt F) ((ms8 t).view.writes (Elt F) (ms8 t).view.junk (R1 c t h1 X1 X2 X6).1.2.2) else d
/-- The results' window after point `t`, from what it held and what the rings hold once the point's block is in. -/
def res2 (c : Dev nD) (t : Fin cfg0.N) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) (d : Vec F S1408x1280 .bf16) : Vec F S1408x1280 .bf16 :=
  if h2 : k0_cond2 (grid0.coords t) = 1#1 then (ms7 t).view.read (Elt F) ((ms7 t).view.writes (Elt F) (ms7 t).view.junk (R2 c t h2 X1 X3 X4 X5 X7 f10 f11).1) else d

theorem cover1 (c : Dev nD) (t : Fin cfg0.N) (h1 : k0_cond1 (grid0.coords t) = 1#1) (X1 : Vec F S1x2 .f32) (X2 : Vec F S1408x640 .bf16) (X6 : Vec F S640x256 .bf16) (y : S1408x640.Idx) :
    ∃ pc ∈ (R1 c t h1 X1 X2 X6).1.2.2, y ∈ pc.1.set :=
  View.cover_of_tiledL (R1 c t h1 X1 X2 X6).1.2.2 S1408x640.size (by sl_kernel_rfl) y
theorem cover2 (c : Dev nD) (t : Fin cfg0.N) (h2 : k0_cond2 (grid0.coords t) = 1#1) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) (y : S1408x1280.Idx) :
    ∃ pc ∈ (R2 c t h2 X1 X3 X4 X5 X7 f10 f11).1, y ∈ pc.1.set :=
  View.cover_of_tiledL (R2 c t h2 X1 X3 X4 X5 X7 f10 f11).1 S352x1280.size (by sl_kernel_rfl) y

set_option maxHeartbeats 1000000 in
/-- The body at point `t`, from the windows at given contents and the rings at given contents. -/
theorem core (c : Dev nD) (t : Fin cfg0.N) (hor : k0_cond1 (grid0.coords t) = 1#1 ∨ k0_cond2 (grid0.coords t) = 1#1) (X1 : Vec F S1x2 .f32) (X2 : Vec F S1408x640 .bf16) (X3 : Vec F S5760x1280 .fp8e4m3) (X4 X5 : Vec F S1x1280 .f32) (X6 : Vec F S640x256 .bf16) (X7 : Vec F S128x1280 .bf16)
    (d8 : Vec F S1408x1280 .bf16) (d9 : Vec F S1408x640 .fp8e4m3) (f10 : Buf (Elt F) (ringM.view.loc (c : Thread nD τ))) (f11 : Buf (Elt F) (lowM.view.loc (c : Thread nD τ))) (K : PUnit → sProp 𝕄) :
    iprop(owns (c : Thread nD τ) (ms0 t) fullShare X1 ∗ owns (c : Thread nD τ) (ms1 t) fullShare X2 ∗ owns (c : Thread nD τ) (ms2 t) fullShare X3 ∗ owns (c : Thread nD τ) (ms3 t) fullShare X4 ∗ owns (c : Thread nD τ) (ms4 t) fullShare X5 ∗ owns (c : Thread nD τ) (ms5 t) fullShare X6 ∗ owns (c : Thread nD τ) (ms6 t) fullShare X7 ∗ owns (c : Thread nD τ) (ms7 t) fullShare d8 ∗ owns (c : Thread nD τ) (ms8 t) fullShare d9 ∗ pt c ringM f10 ∗ pt c lowM f11 ∗ (iprop(owns (c : Thread nD τ) (ms0 t) fullShare X1 ∗ owns (c : Thread nD τ) (ms1 t) fullShare X2 ∗ owns (c : Thread nD τ) (ms2 t) fullShare X3 ∗ owns (c : Thread nD τ) (ms3 t) fullShare X4 ∗ owns (c : Thread nD τ) (ms4 t) fullShare X5 ∗ owns (c : Thread nD τ) (ms5 t) fullShare X6 ∗ owns (c : Thread nD τ) (ms6 t) fullShare X7 ∗ owns (c : Thread nD τ) (ms7 t) fullShare (res2 c t X1 X3 X4 X5 X7 (ring1 c t X1 X2 X6 f10) (low1 c t X1 X2 X6 f11) d8) ∗ owns (c : Thread nD τ) (ms8 t) fullShare (codes1 c t X1 X2 X6 d9) ∗ pt c ringM (ring1 c t X1 X2 X6 f10) ∗ pt c lowM (low1 c t X1 X2 X6 f11)) -∗ K ⟨⟩))
      ⊢ wp frame (wpE (defs₀ (F := F)) Variants.none c none) Set.univ (bodyAt0 t) K := by
  unfold bodyAt0
  rw [conv_eq]
  unfold conv2
  rw [show owns (c : Thread nD τ) (ms0 t) fullShare X1 = iprop(∃ f, ⌜(ms0 t).view.read (Elt F) f = X1⌝ ∗ ((ms0 t).view.loc (c : Thread nD τ)) ↦[(ms0 t).view.set]{fullShare} f) from rfl]
  by_cases h1 : k0_cond1 (grid0.coords t) = 1#1 <;> by_cases h2 : k0_cond2 (grid0.coords t) = 1#1
  · simp only [dif_pos h1, dif_pos h2]
    rw [show ring1 c t X1 X2 X6 f10 = (ringM.view.writes (Elt F) f10 (R1 c t h1 X1 X2 X6).1.1) from dif_pos h1, show low1 c t X1 X2 X6 f11 = (lowM.view.writes (Elt F) f11 (R1 c t h1 X1 X2 X6).1.2.1) from dif_pos h1, show codes1 c t X1 X2 X6 d9 = _ from dif_pos h1, show ∀ f g, res2 c t X1 X3 X4 X5 X7 f g d8 = _ from fun f g => dif_pos h2]
    iintro ⟨⟨%f0, %hf0, H0⟩, H1, H2, H3, H4, H5, H6, H7, H8, H10, H11, Hk⟩
    obtain rfl := (hs0 t).eq_unread hf0
    set_option sl_exec.stopBefore "phase1" in sl_exec
    iapply (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6).2 f10 f11
    isplitl [H1]; · iexact H1
    isplitl [H5]; · iexact H5
    isplitl [H8]; · iexists _; iexact H8
    isplitl [H10]; · iexact H10
    isplitl [H11]; · iexact H11
    iintro ⟨H1, H5, ⟨%e9, H8⟩, H10, H11⟩
    iapply (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 (ringM.view.writes (Elt F) f10 (R1 c t h1 X1 X2 X6).1.1) (lowM.view.writes (Elt F) f11 (R1 c t h1 X1 X2 X6).1.2.1)).2
    isplitl [H2]; · iexact H2
    isplitl [H3]; · iexact H3
    isplitl [H4]; · iexact H4
    isplitl [H6]; · iexact H6
    isplitl [H7]; · iexists _; iexact H7
    isplitl [H10]; · iexact H10
    isplitl [H11]; · iexact H11
    iintro ⟨H2, H3, H4, H6, ⟨%e8, H7⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact View.read_writes_of_cover _ _ _ _ _ (cover2 c t h2 X1 X3 X4 X5 X7 _ _)
    isplitl [H8]
    · unfold owns; iexists _; isplitr; swap; · iexact H8
      ipureintro; exact View.read_writes_of_cover _ _ _ _ _ (cover1 c t h1 X1 X2 X6)
    isplitl [H10]; · iexact H10
    iexact H11
  · simp only [dif_pos h1, dif_neg h2]
    rw [show ring1 c t X1 X2 X6 f10 = (ringM.view.writes (Elt F) f10 (R1 c t h1 X1 X2 X6).1.1) from dif_pos h1, show low1 c t X1 X2 X6 f11 = (lowM.view.writes (Elt F) f11 (R1 c t h1 X1 X2 X6).1.2.1) from dif_pos h1, show codes1 c t X1 X2 X6 d9 = _ from dif_pos h1, show ∀ f g, res2 c t X1 X3 X4 X5 X7 f g d8 = d8 from fun f g => dif_neg h2]
    iintro ⟨⟨%f0, %hf0, H0⟩, H1, H2, H3, H4, H5, H6, H7, H8, H10, H11, Hk⟩
    obtain rfl := (hs0 t).eq_unread hf0
    set_option sl_exec.stopBefore "phase1" in sl_exec
    iapply (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6).2 f10 f11
    isplitl [H1]; · iexact H1
    isplitl [H5]; · iexact H5
    isplitl [H8]; · iexists _; iexact H8
    isplitl [H10]; · iexact H10
    isplitl [H11]; · iexact H11
    iintro ⟨H1, H5, ⟨%e9, H8⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · iexact H7
    isplitl [H8]
    · unfold owns; iexists _; isplitr; swap; · iexact H8
      ipureintro; exact View.read_writes_of_cover _ _ _ _ _ (cover1 c t h1 X1 X2 X6)
    isplitl [H10]; · iexact H10
    iexact H11
  · simp only [dif_neg h1, dif_pos h2]
    rw [show ring1 c t X1 X2 X6 f10 = f10 from dif_neg h1, show low1 c t X1 X2 X6 f11 = f11 from dif_neg h1, show codes1 c t X1 X2 X6 d9 = d9 from dif_neg h1, show ∀ f g, res2 c t X1 X3 X4 X5 X7 f g d8 = _ from fun f g => dif_pos h2]
    iintro ⟨⟨%f0, %hf0, H0⟩, H1, H2, H3, H4, H5, H6, H7, H8, H10, H11, Hk⟩
    obtain rfl := (hs0 t).eq_unread hf0
    set_option sl_exec.stopBefore "phase2" in sl_exec
    iapply (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 f10 f11).2
    isplitl [H2]; · iexact H2
    isplitl [H3]; · iexact H3
    isplitl [H4]; · iexact H4
    isplitl [H6]; · iexact H6
    isplitl [H7]; · iexists _; iexact H7
    isplitl [H10]; · iexact H10
    isplitl [H11]; · iexact H11
    iintro ⟨H2, H3, H4, H6, ⟨%e8, H7⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact View.read_writes_of_cover _ _ _ _ _ (cover2 c t h2 X1 X3 X4 X5 X7 _ _)
    isplitl [H8]
    · iexact H8
    isplitl [H10]; · iexact H10
    iexact H11
  · exact absurd hor (by simp [h1, h2])

end Cert.Kernel.Hand

end
-- ==== Proof.Kernel.HFrame.lean ====
/-
  The program's frame: every execution ends, every argument array is unchanged, every counter is at zero. Nothing is said here
  of what the two results hold.
-/
module

public import proofs.«01_k».proof.Proof.Gen.Kernel.Frame
public import proofs.«01_k».proof.Proof.Gen.Kernel.Skeleton
public import proofs.«01_k».proof.Proof.Kernel.Core
public import Idealize.ShloMosaic.Lib.Pipeline.Frame
public import Idealize.ShloMosaic.Lib.Tactic

@[expose] public section

set_option maxRecDepth 16384

noncomputable section

namespace Cert.Kernel.Hand.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

theorem cond_or (t : Fin cfg0.N) : k0_cond1 (grid0.coords t) = 1#1 ∨ k0_cond2 (grid0.coords t) = 1#1 := by
  revert t; decide +kernel

/-- The two results' windows, forgotten. -/
def forgets0 : Fin 9 → Bool := fun | 7 => true | 8 => true | _ => false

/-- The proof data: inputs at their blocks, the results' windows unnamed, the invariant the class's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ X, owns (c : Thread nD τ) (ms7 t) fullShare X)
    ∗ (∃ X, owns (c : Thread nD τ) (ms8 t) fullShare X))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, owns (c : Thread nD τ) (ms7 t) fullShare X)
    ∗ (∃ X, owns (c : Thread nD τ) (ms8 t) fullShare X))

theorem PhiA_eq (c : Dev nD) : (Pipeline.ΦA spec0 c : sProp 𝕄)
    = iprop(((∃ f, pt c ringM f) ∗ (∃ f, pt c lowM f)) ∗ (∃ r, prngReg c r)) := by
  rw [Pipeline.ΦA, scopedRest0_eq]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, PhiA_eq]
  iintro ⟨⟨⟨⟨%f10, H10⟩, ⟨%f11, H11⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (core c t (cond_or t) (iblk m c 0 t) (iblk m c 1 t) (iblk m c 2 t) (iblk m c 3 t) (iblk m c 4 t) (iblk m c 5 t) (iblk m c 6 t) d7 d8 f10 f11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iintro ⟨H0, H1, H2, H3, H4, H5, H6, H7, H8, H10, H11⟩
  isplitl [H10 H11 Hg]
  · isplitl [H10 H11]
    · isplitl [H10]; · iexists _; iexact H10
      iexists _; iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((congrFun (Pipeline.RDat.ArrAt_in ((dats m 0 c).toRForget forgets0) 0 rfl cfg0.N) _).mp ((h.1 c).1 0)).trans ((A_eq m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.Kernel.Hand.Frame

end
-- ==== Proof.KernelIdeal.Phases.lean ====
/-
  The convolution's body at one grid point, in its two phases: the first quantises a block of rows into the ring, the second
  computes the results of the block before it from the ring.
-/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The ring of code planes and the ring of low-rank products, whole. -/
abbrev ringM : Memref sig .tc .vmem S3x3x5x1472x128 .fp8e4m3 := Memref.whole cc0_scratch0
abbrev lowM : Memref sig .tc .vmem S3x2x1424x128 .f32 := Memref.whole cc0_scratch1
/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxRecDepth 65536 in
/-- Phase 1 of the body. -/
def phase1 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) (arg0 : BitVec 32) (v1 : Elt F .f32) (k0_h1 : k0_cond1 i = 1#1) (k : Prog (TpuEff nD τ sig (Elt F) Λ₀ .tc) PUnit) :
    Prog (TpuEff nD τ sig (Elt F) Λ₀ .tc) PUnit := do
  let ⟨v8, v18, v35⟩ : Σ' (v8 : BitVec 32) (v18 : FVec F S1408x640 .fp8e4m3), FVec F S1408x128 .fp8e4m3 ← k0_part1 i arg1 harg1 arg2 harg2 arg3 harg3 arg4 harg4 arg5 harg5 arg6 harg6 arg7 harg7 arg8 harg8 arg9 harg9 arg10 harg10 arg11 harg11 arg0 v1 k0_h1
  let v65 : FVec F S1408x128 .fp8e4m3 ← k0_part2 i arg1 harg1 arg2 harg2 arg3 harg3 arg4 harg4 arg5 harg5 arg6 harg6 arg7 harg7 arg8 harg8 arg9 harg9 arg10 harg10 arg11 harg11 k0_h1 v8 v18 v35
  k0_part3 i arg1 harg1 arg2 harg2 arg3 harg3 arg4 harg4 arg5 harg5 arg6 harg6 arg7 harg7 arg8 harg8 arg9 harg9 arg10 harg10 arg11 harg11 k0_h1 v8 v18 v65
  let ⟨v113, v115, v130, v132⟩ : Σ' (v113 : IVec S1408x128 1) (v115 : IVec S1408x128 1) (v130 : FVec F S1408x128 .fp8e4m3), FVec F S1408x128 .fp8e4m3 ← k0_part4 i arg1 harg1 arg2 harg2 arg3 harg3 arg4 harg4 arg5 harg5 arg6 harg6 arg7 harg7 arg8 harg8 arg9 harg9 arg10 harg10 arg11 harg11 k0_h1 v8
  let ⟨v157, cst_116⟩ : Σ' (v157 : FVec F S1408x128 .fp8e4m3), F .fp8e4m3 ← k0_part5 i arg1 harg1 arg2 harg2 arg3 harg3 arg4 harg4 arg5 harg5 arg6 harg6 arg7 harg7 arg8 harg8 arg9 harg9 arg10 harg10 arg11 harg11 k0_h1 v8 v113 v115 v130 v132
  let v192 : FVec F S1408x128 .fp8e4m3 ← k0_part6 i arg1 harg1 arg2 harg2 arg3 harg3 arg4 harg4 arg5 harg5 arg6 harg6 arg7 harg7 arg8 harg8 arg9 harg9 arg10 harg10 arg11 harg11 k0_h1 v8 v113 v115 v157 cst_116
  let v226 : FVec F S1408x128 .fp8e4m3 ← k0_part7 i arg1 harg1 arg2 harg2 arg3 harg3 arg4 harg4 arg5 harg5 arg6 harg6 arg7 harg7 arg8 harg8 arg9 harg9 arg10 harg10 arg11 harg11 k0_h1 v8 v113 v115 v192
  let v254 : FVec F S1408x256 .f32 ← k0_part8 i arg1 harg1 arg2 harg2 arg3 harg3 arg4 harg4 arg5 harg5 arg6 harg6 arg7 harg7 arg8 harg8 arg9 harg9 arg10 harg10 arg11 harg11 k0_h1 v8 v18 v113 v115 v226
  let v262 : Vec F S1x1x1408x128 .f32 ← Prog.lift (.load arg11 (Rect.unit (s := S3x2x1424x128) (k0_off37 i) S1x1x1408x128.size (k0_off37_inb i k0_h1)).toLoadRect (View.loadsAt_vmem h_S1x1x1408x128))
  Prog.lift (.store arg11 (Rect.unit (s := S3x2x1424x128) (k0_off37 i) S1x1x1408x128.size (k0_off37_inb i k0_h1)) (k0_pay1 v254) Finset.univ (View.stores_vmem_bits_univ h_S1x1x1408x128 rfl) (.inl rfl))
  k

set_option maxRecDepth 65536 in
/-- Phase 2 of the body. -/
def phase2 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) (arg0 : BitVec 32) (v0 : Elt F .f32) (k0_h2 : k0_cond2 i = 1#1) (k : Prog (TpuEff nD τ sig (Elt F) Λ₀ .tc) PUnit) :
    Prog (TpuEff nD τ sig (Elt F) Λ₀ .tc) PUnit := do
  let ⟨v9, v11, v17, v19, v21, v1546, v1553, v1560, v1567, v1574, v1581, v1588, v1595, v1602, v1609, v1616, v1623, v1630, v1637, v1644, v1651, v1658, v1665, v1672, v1679, v1686, v1693, v1700, v1707, v1714, v1721, v1728, v1735, v1742, v1749, v1758, v1767, v1776, v1785, v1794, v1803, v1812, v1821, v1830, v1839, v1842⟩ : Σ' (v9 : BitVec 32) (v11 : BitVec 32) (v17 : BitVec 1) (v19 : FVec F S1x1280 .f32) (v21 : FVec F S1x1280 .f32) (v1546 : FVec F S352x128 .fp8e4m3) (v1553 : FVec F S352x128 .fp8e4m3) (v1560 : FVec F S352x128 .fp8e4m3) (v1567 : FVec F S352x128 .fp8e4m3) (v1574 : FVec F S352x128 .fp8e4m3) (v1581 : FVec F S352x128 .fp8e4m3) (v1588 : FVec F S352x128 .fp8e4m3) (v1595 : FVec F S352x128 .fp8e4m3) (v1602 : FVec F S352x128 .fp8e4m3) (v1609 : FVec F S352x128 .fp8e4m3) (v1616 : FVec F S352x128 .fp8e4m3) (v1623 : FVec F S352x128 .fp8e4m3) (v1630 : FVec F S352x128 .fp8e4m3) (v1637 : FVec F S352x128 .fp8e4m3) (v1644 : FVec F S352x128 .fp8e4m3) (v1651 : FVec F S352x128 .fp8e4m3) (v1658 : FVec F S352x128 .fp8e4m3) (v1665 : FVec F S352x128 .fp8e4m3) (v1672 : FVec F S352x128 .fp8e4m3) (v1679 : FVec F S352x128 .fp8e4m3) (v1686 : FVec F S352x128 .fp8e4m3) (v1693 : FVec F S352x128 .fp8e4m3) (v1700 : FVec F S352x128 .fp8e4m3) (v1707 : FVec F S352x128 .fp8e4m3) (v1714 : FVec F S352x128 .fp8e4m3) (v1721 : FVec F S352x128 .fp8e4m3) (v1728 : FVec F S352x128 .fp8e4m3) (v1735 : FVec F S352x128 .fp8e4m3) (v1742 : FVec F S352x128 .fp8e4m3) (v1749 : FVec F S352x128 .fp8e4m3) (v1758 : FVec F S352x128 .fp8e4m3) (v1767 : FVec F S352x128 .fp8e4m3) (v1776 : FVec F S352x128 .fp8e4m3) (v1785 : FVec F S352x128 .fp8e4m3) (v1794 : FVec F S352x128 .fp8e4m3) (v1803 : FVec F S352x128 .fp8e4m3) (v1812 : FVec F S352x128 .fp8e4m3) (v1821 : FVec F S352x128 .fp8e4m3) (v1830 : FVec F S352x128 .fp8e4m3) (v1839 : FVec F S352x128 .fp8e4m3), FVec F S176x128 .fp8e4m3 ← k0_part75 i arg1 harg1 arg2 harg2 arg3 harg3 arg4 harg4 arg5 harg5 arg6 harg6 arg7 harg7 arg8 harg8 arg9 harg9 arg10 harg10 arg11 harg11 arg0 v0 k0_h2
  let ⟨v1848, v1857, v1866, v1869, v1872⟩ : Σ' (v1848 : FVec F S352x128 .fp8e4m3) (v1857 : FVec F S352x128 .fp8e4m3) (v1866 : FVec F S352x128 .fp8e4m3) (v1869 : FVec F S176x128 .fp8e4m3), FVec F S176x128 .fp8e4m3 ← k0_part69 i arg1 harg1 arg2 harg2 arg3 harg3 arg4 harg4 arg5 harg5 arg6 harg6 arg7 harg7 arg8 harg8 arg9 harg9 arg10 harg10 arg11 harg11 k0_h2 v9 v11 v17 v1842
  let ⟨v1885, v1898, v1907⟩ : Σ' (v1885 : FVec F S352x5760 .fp8e4m3) (v1898 : FVec F S176x128 .f32), FVec F S176x128 .f32 ← k0_part70 i arg1 harg1 arg2 harg2 arg3 harg3 arg4 harg4 arg5 harg5 arg6 harg6 arg7 harg7 arg8 harg8 arg9 harg9 arg10 harg10 arg11 harg11 k0_h2 v9 v11 v17 v1546 v1553 v1560 v1567 v1574 v1581 v1588 v1595 v1602 v1609 v1616 v1623 v1630 v1637 v1644 v1651 v1658 v1665 v1672 v1679 v1686 v1693 v1700 v1707 v1714 v1721 v1728 v1735 v1742 v1749 v1758 v1767 v1776 v1785 v1794 v1803 v1812 v1821 v1830 v1839 v1848 v1857 v1866 v1869 v1872
  let v1942 : FVec F S176x128 .f32 ← k0_part71 i arg1 harg1 arg2 harg2 arg3 harg3 arg4 harg4 arg5 harg5 arg6 harg6 arg7 harg7 arg8 harg8 arg9 harg9 arg10 harg10 arg11 harg11 k0_h2 v9 v1898 v1907
  let ⟨v1965, v1978, v1981, v1982⟩ : Σ' (v1965 : FVec F S176x128 .bf16) (v1978 : FVec F S176x128 .f32) (v1981 : FVec F S176x128 .f32), IVec S176x128 32 ← k0_part72 i arg1 harg1 arg2 harg2 arg3 harg3 arg4 harg4 arg5 harg5 arg6 harg6 arg7 harg7 arg8 harg8 arg9 harg9 arg10 harg10 arg11 harg11 v0 k0_h2 v9 v1942
  let ⟨v2013, v2018, v2019⟩ : Σ' (v2013 : FVec F S176x128 .f32) (v2018 : FVec F S176x128 .f32), IVec S176x128 32 ← k0_part73 i arg1 harg1 arg2 harg2 arg3 harg3 arg4 harg4 arg5 harg5 arg6 harg6 arg7 harg7 arg8 harg8 arg9 harg9 arg10 harg10 arg11 harg11 k0_h2 v9 v11 v17 v1978 v1981 v1982
  let ⟨v2055, v2057, cst_1860⟩ : Σ' (v2055 : FVec F S352x1280 .f32) (v2057 : FVec F S5760x1280 .fp8e4m3), FVec F S352x1280 .f32 ← k0_part74 i arg1 harg1 arg2 harg2 arg3 harg3 arg4 harg4 arg5 harg5 arg6 harg6 arg7 harg7 arg8 harg8 arg9 harg9 arg10 harg10 arg11 harg11 v0 k0_h2 v11 v17 v1965 v2013 v2018 v2019
  let v2069 : Vec F S352x1280 .bf16 ← Prog.lift (.load arg8 (Rect.unit (s := S1408x1280) ![1056, 0] S352x1280.size inb_S1408x1280_S352x1280_1056_0).toLoadRect (View.loadsAt_vmem h_S352x1280))
  Prog.lift (.store arg8 (Rect.unit (s := S1408x1280) ![1056, 0] S352x1280.size inb_S1408x1280_S352x1280_1056_0) (k0_pay2 v0 v19 v21 v1885 v2055 v2057 cst_1860) Finset.univ (View.stores_vmem h_S352x1280 (harg8.storeExact_slice rfl _ packedbf16_S1408x1280_S352x1280_1056_0) (fun _ => rfl)) (.inl rfl))
  k

/-- The body: the two scales, then each phase under its condition. -/
def conv2 (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg10 : Memref sig .tc .vmem S3x3x5x1472x128 .fp8e4m3) (harg10 : arg10.IsWhole) (arg11 : Memref sig .tc .vmem S3x2x1424x128 .f32) (harg11 : arg11.IsWhole) : Prog (TpuEff nD τ sig (Elt F) Λ₀ .tc) PUnit := do
  let arg0 : BitVec 32 := BitVec.ofNat 32 (i 0).val
  let v0 : Elt F .f32 ← smemLoad arg1 (Rect.unit (s := S1x2) ![0, 0] S1x1.size inb_S1x2_S1x1_0_0) numel1_S1x1 rfl
  let v1 : Elt F .f32 ← smemLoad arg1 (Rect.unit (s := S1x2) ![0, 1] S1x1.size inb_S1x2_S1x1_0_1) numel1_S1x1 rfl
  if k0_h1 : k0_cond1 i = 1#1 then phase1 i arg1 harg1 arg2 harg2 arg3 harg3 arg4 harg4 arg5 harg5 arg6 harg6 arg7 harg7 arg8 harg8 arg9 harg9 arg10 harg10 arg11 harg11 arg0 v1 k0_h1 ((if k0_h2 : k0_cond2 i = 1#1 then phase2 i arg1 harg1 arg2 harg2 arg3 harg3 arg4 harg4 arg5 harg5 arg6 harg6 arg7 harg7 arg8 harg8 arg9 harg9 arg10 harg10 arg11 harg11 arg0 v0 k0_h2 (pure ⟨⟩) else pure ⟨⟩))
  else (if k0_h2 : k0_cond2 i = 1#1 then phase2 i arg1 harg1 arg2 harg2 arg3 harg3 arg4 harg4 arg5 harg5 arg6 harg6 arg7 harg7 arg8 harg8 arg9 harg9 arg10 harg10 arg11 harg11 arg0 v0 k0_h2 (pure ⟨⟩) else pure ⟨⟩)

set_option maxRecDepth 65536 in
theorem conv_eq : cc0_conv (F := F) = conv2 (F := F) := cc0_conv_eq_skeleton.trans rfl

attribute [irreducible] phase1 phase2

end Cert.KernelIdeal.Hand

end
-- ==== Proof.KernelIdeal.Run1.lean ====
/-
  The convolution's body at one grid point, in its two phases: the first quantises a block of rows into the ring, the second
  computes the results of the block before it from the ring.
-/
module

public import proofs.«01_k».proof.Proof.Gen.KernelIdeal.Frame
public import proofs.«01_k».proof.Proof.Gen.KernelIdeal.Skeleton
public import proofs.«01_k».proof.Proof.KernelIdeal.Phases
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What phase 1 leaves, as lists of stores over whatever the three buffers held — the ring of code planes, the ring of
    low-rank products, the codes' window —, with the triple that says so. -/
def run1 (c : Dev nD) (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg0 : BitVec 32) (v1 : Elt F .f32) (k0_h1 : k0_cond1 i = 1#1)
    (X2 : Vec F S1408x640 .bf16) (X6 : Vec F S640x256 .bf16) :
    { W : List (View.Piece (Elt F) S3x3x5x1472x128 .fp8e4m3) × List (View.Piece (Elt F) S3x2x1424x128 .f32) × List (View.Piece (Elt F) S1408x640 .fp8e4m3) //
      ∀ (f10 : Buf (Elt F) (ringM.view.loc (c : Thread nD τ))) (f11 : Buf (Elt F) (lowM.view.loc (c : Thread nD τ))) (k : Prog (TpuEff nD τ sig (Elt F) Λ₀ .tc) PUnit) (E : Set ℕ) (K : PUnit → sProp 𝕄),
        iprop(owns (c : Thread nD τ) arg2 fullShare X2 ∗ owns (c : Thread nD τ) arg6 fullShare X6 ∗ (∃ d, owns (c : Thread nD τ) arg9 fullShare d) ∗ pt c ringM f10 ∗ pt c lowM f11
          ∗ (iprop(owns (c : Thread nD τ) arg2 fullShare X2 ∗ owns (c : Thread nD τ) arg6 fullShare X6 ∗ (∃ f, arg9.view.loc (c : Thread nD τ) ↦[arg9.view.set]{fullShare} arg9.view.writes (Elt F) f W.2.2) ∗ pt c ringM (ringM.view.writes (Elt F) f10 W.1) ∗ pt c lowM (lowM.view.writes (Elt F) f11 W.2.1))
              -∗ wp frame (wpE (defs₀ (F := F)) Variants.none c none) E k K))
        ⊢ wp frame (wpE (defs₀ (F := F)) Variants.none c none) E (phase1 i arg1 harg1 arg2 harg2 arg3 harg3 arg4 harg4 arg5 harg5 arg6 harg6 arg7 harg7 arg8 harg8 arg9 harg9 ringM (Memref.isWhole_whole _) lowM (Memref.isWhole_whole _) arg0 v1 k0_h1 k) K } := by
  refine ⟨⟨?_, ?_, ?_⟩, fun f10 f11 k E K => ?run⟩
  case run =>
    unfold phase1
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f6, %hf6, H6⟩, ⟨%d9, %f9, -, H9⟩, H10, H11, Hk⟩
    obtain rfl := harg2.eq_unread hf2; obtain rfl := harg6.eq_unread hf6
    sl_exec
    iapply Hk
    isplitl [H2]
    · iexists _; isplitr; · ipureintro; exact harg2.read_unread _
      iexact H2
    isplitl [H6]
    · iexists _; isplitr; · ipureintro; exact harg6.read_unread _
      iexact H6
    isplitl [H9]; · iexists _; iexact H9
    isplitl [H10]; · iexact H10
    iexact H11

end Cert.KernelIdeal.Hand

end
-- ==== Proof.KernelIdeal.Run2.lean ====
/-
  The convolution's body at one grid point, in its two phases: the first quantises a block of rows into the ring, the second
  computes the results of the block before it from the ring.
-/
module

public import proofs.«01_k».proof.Proof.Gen.KernelIdeal.Frame
public import proofs.«01_k».proof.Proof.Gen.KernelIdeal.Skeleton
public import proofs.«01_k».proof.Proof.KernelIdeal.Phases
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What phase 2 leaves in the results' window, as a list of stores, with the triple that says so. -/
def run2 (c : Dev nD) (i : grid0.Coords) (arg1 : Memref sig .tc .smem S1x2 .f32) (harg1 : arg1.IsWhole) (arg2 : Memref sig .tc .vmem S1408x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x256 .bf16) (harg6 : arg6.IsWhole) (arg7 : Memref sig .tc .vmem S128x1280 .bf16) (harg7 : arg7.IsWhole) (arg8 : Memref sig .tc .vmem S1408x1280 .bf16) (harg8 : arg8.IsWhole) (arg9 : Memref sig .tc .vmem S1408x640 .fp8e4m3) (harg9 : arg9.IsWhole) (arg0 : BitVec 32) (v0 : Elt F .f32) (k0_h2 : k0_cond2 i = 1#1)
    (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) :
    { W : List (View.Piece (Elt F) S1408x1280 .bf16) //
      ∀ (k : Prog (TpuEff nD τ sig (Elt F) Λ₀ .tc) PUnit) (E : Set ℕ) (K : PUnit → sProp 𝕄),
        iprop(owns (c : Thread nD τ) arg3 fullShare X3 ∗ owns (c : Thread nD τ) arg4 fullShare X4 ∗ owns (c : Thread nD τ) arg5 fullShare X5 ∗ owns (c : Thread nD τ) arg7 fullShare X7 ∗ (∃ d, owns (c : Thread nD τ) arg8 fullShare d) ∗ pt c ringM f10 ∗ pt c lowM f11
          ∗ (iprop(owns (c : Thread nD τ) arg3 fullShare X3 ∗ owns (c : Thread nD τ) arg4 fullShare X4 ∗ owns (c : Thread nD τ) arg5 fullShare X5 ∗ owns (c : Thread nD τ) arg7 fullShare X7 ∗ (∃ f, arg8.view.loc (c : Thread nD τ) ↦[arg8.view.set]{fullShare} arg8.view.writes (Elt F) f W) ∗ pt c ringM f10 ∗ pt c lowM f11)
              -∗ wp frame (wpE (defs₀ (F := F)) Variants.none c none) E k K))
        ⊢ wp frame (wpE (defs₀ (F := F)) Variants.none c none) E (phase2 i arg1 harg1 arg2 harg2 arg3 harg3 arg4 harg4 arg5 harg5 arg6 harg6 arg7 harg7 arg8 harg8 arg9 harg9 ringM (Memref.isWhole_whole _) lowM (Memref.isWhole_whole _) arg0 v0 k0_h2 k) K } := by
  refine ⟨?_, fun k E K => ?run⟩
  case run =>
    unfold phase2
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f3, %hf3, H3⟩, ⟨%f4, %hf4, H4⟩, ⟨%f5, %hf5, H5⟩, ⟨%f7, %hf7, H7⟩, ⟨%d8, %f8, -, H8⟩, H10, H11, Hk⟩
    obtain rfl := harg3.eq_unread hf3; obtain rfl := harg4.eq_unread hf4; obtain rfl := harg5.eq_unread hf5; obtain rfl := harg7.eq_unread hf7
    sl_exec
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]; · iexists _; iexact H8
    isplitl [H10]; · iexact H10
    iexact H11

end Cert.KernelIdeal.Hand

end
-- ==== Proof.KernelIdeal.Core.lean ====
/-
  The convolution's body at one grid point: what it leaves in the two rings and in its two windows, from what the rings held.
-/
module

public import proofs.«01_k».proof.Proof.Gen.KernelIdeal.Frame
public import proofs.«01_k».proof.Proof.Gen.KernelIdeal.Skeleton
public import proofs.«01_k».proof.Proof.KernelIdeal.Run1
public import proofs.«01_k».proof.Proof.KernelIdeal.Run2
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev ms0 (t : Fin cfg0.N) : Memref sig .tc .smem S1x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1408x640 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S5760x1280 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1280 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1280 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1280 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1408x1280 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1408x640 .fp8e4m3 := win0_8.stage (cfg0.slots t 8)
abbrev hs8 (t : Fin cfg0.N) : (ms8 t).IsWhole := hstage0_8 ((cfg0.slots t 8).cast nbuf0_8)

/-- The two scales as the body loads them. -/
def sc0 (t : Fin cfg0.N) (X : Vec F S1x2 .f32) : Elt F .f32 :=
  View.readAt (Elt F) (ms0 t).view (Rect.unit (s := S1x2) ![0, 0] S1x1.size inb_S1x2_S1x1_0_0).toLoadRect ((hs0 t).unread X) (Shape.Idx.first (s := S1x1) (by decide))
def sc1 (t : Fin cfg0.N) (X : Vec F S1x2 .f32) : Elt F .f32 :=
  View.readAt (Elt F) (ms0 t).view (Rect.unit (s := S1x2) ![0, 1] S1x1.size inb_S1x2_S1x1_0_1).toLoadRect ((hs0 t).unread X) (Shape.Idx.first (s := S1x1) (by decide))

abbrev R1 (c : Dev nD) (t : Fin cfg0.N) (h1 : k0_cond1 (grid0.coords t) = 1#1) (X1 : Vec F S1x2 .f32) (X2 : Vec F S1408x640 .bf16) (X6 : Vec F S640x256 .bf16) :=
  run1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6
abbrev R2 (c : Dev nD) (t : Fin cfg0.N) (h2 : k0_cond2 (grid0.coords t) = 1#1) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) :=
  run2 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 f10 f11

/-- The ring of code planes after point `t`. -/
def ring1 (c : Dev nD) (t : Fin cfg0.N) (X1 : Vec F S1x2 .f32) (X2 : Vec F S1408x640 .bf16) (X6 : Vec F S640x256 .bf16) (f10 : Buf (Elt F) (ringM.view.loc (c : Thread nD τ))) : Buf (Elt F) (ringM.view.loc (c : Thread nD τ)) :=
  if h1 : k0_cond1 (grid0.coords t) = 1#1 then ringM.view.writes (Elt F) f10 (R1 c t h1 X1 X2 X6).1.1 else f10
/-- The ring of low-rank products after point `t`. -/
def low1 (c : Dev nD) (t : Fin cfg0.N) (X1 : Vec F S1x2 .f32) (X2 : Vec F S1408x640 .bf16) (X6 : Vec F S640x256 .bf16) (f11 : Buf (Elt F) (lowM.view.loc (c : Thread nD τ))) : Buf (Elt F) (lowM.view.loc (c : Thread nD τ)) :=
  if h1 : k0_cond1 (grid0.coords t) = 1#1 then lowM.view.writes (Elt F) f11 (R1 c t h1 X1 X2 X6).1.2.1 else f11
/-- The codes' window after point `t`, from what it held. -/
def codes1 (c : Dev nD) (t : Fin cfg0.N) (X1 : Vec F S1x2 .f32) (X2 : Vec F S1408x640 .bf16) (X6 : Vec F S640x256 .bf16) (d : Vec F S1408x640 .fp8e4m3) : Vec F S1408x640 .fp8e4m3 :=
  if h1 : k0_cond1 (grid0.coords t) = 1#1 then (ms8 t).view.read (Elt F) ((ms8 t).view.writes (Elt F) (ms8 t).view.junk (R1 c t h1 X1 X2 X6).1.2.2) else d
/-- The results' window after point `t`, from what it held and what the rings hold once the point's block is in. -/
def res2 (c : Dev nD) (t : Fin cfg0.N) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) (d : Vec F S1408x1280 .bf16) : Vec F S1408x1280 .bf16 :=
  if h2 : k0_cond2 (grid0.coords t) = 1#1 then (ms7 t).view.read (Elt F) ((ms7 t).view.writes (Elt F) (ms7 t).view.junk (R2 c t h2 X1 X3 X4 X5 X7 f10 f11).1) else d

theorem cover1 (c : Dev nD) (t : Fin cfg0.N) (h1 : k0_cond1 (grid0.coords t) = 1#1) (X1 : Vec F S1x2 .f32) (X2 : Vec F S1408x640 .bf16) (X6 : Vec F S640x256 .bf16) (y : S1408x640.Idx) :
    ∃ pc ∈ (R1 c t h1 X1 X2 X6).1.2.2, y ∈ pc.1.set :=
  View.cover_of_tiledL (R1 c t h1 X1 X2 X6).1.2.2 S1408x640.size (by sl_kernel_rfl) y
theorem cover2 (c : Dev nD) (t : Fin cfg0.N) (h2 : k0_cond2 (grid0.coords t) = 1#1) (X1 : Vec F S1x2 .f32) (X3 : Vec F S5760x1280 .fp8e4m3) (X4 X5 : Vec F S1x1280 .f32) (X7 : Vec F S128x1280 .bf16) (f10 : Buf (Elt F) (ringM.view.loc (c : Thread nD τ))) (f11 : Buf (Elt F) (lowM.view.loc (c : Thread nD τ))) (y : S1408x1280.Idx) :
    ∃ pc ∈ (R2 c t h2 X1 X3 X4 X5 X7 f10 f11).1, y ∈ pc.1.set :=
  View.cover_of_tiledL (R2 c t h2 X1 X3 X4 X5 X7 f10 f11).1 S352x1280.size (by sl_kernel_rfl) y

set_option maxHeartbeats 1000000 in
/-- The body at point `t`, from the windows at given contents and the rings at given contents. -/
theorem core (c : Dev nD) (t : Fin cfg0.N) (hor : k0_cond1 (grid0.coords t) = 1#1 ∨ k0_cond2 (grid0.coords t) = 1#1) (X1 : Vec F S1x2 .f32) (X2 : Vec F S1408x640 .bf16) (X3 : Vec F S5760x1280 .fp8e4m3) (X4 X5 : Vec F S1x1280 .f32) (X6 : Vec F S640x256 .bf16) (X7 : Vec F S128x1280 .bf16)
    (d8 : Vec F S1408x1280 .bf16) (d9 : Vec F S1408x640 .fp8e4m3) (f10 : Buf (Elt F) (ringM.view.loc (c : Thread nD τ))) (f11 : Buf (Elt F) (lowM.view.loc (c : Thread nD τ))) (K : PUnit → sProp 𝕄) :
    iprop(owns (c : Thread nD τ) (ms0 t) fullShare X1 ∗ owns (c : Thread nD τ) (ms1 t) fullShare X2 ∗ owns (c : Thread nD τ) (ms2 t) fullShare X3 ∗ owns (c : Thread nD τ) (ms3 t) fullShare X4 ∗ owns (c : Thread nD τ) (ms4 t) fullShare X5 ∗ owns (c : Thread nD τ) (ms5 t) fullShare X6 ∗ owns (c : Thread nD τ) (ms6 t) fullShare X7 ∗ owns (c : Thread nD τ) (ms7 t) fullShare d8 ∗ owns (c : Thread nD τ) (ms8 t) fullShare d9 ∗ pt c ringM f10 ∗ pt c lowM f11 ∗ (iprop(owns (c : Thread nD τ) (ms0 t) fullShare X1 ∗ owns (c : Thread nD τ) (ms1 t) fullShare X2 ∗ owns (c : Thread nD τ) (ms2 t) fullShare X3 ∗ owns (c : Thread nD τ) (ms3 t) fullShare X4 ∗ owns (c : Thread nD τ) (ms4 t) fullShare X5 ∗ owns (c : Thread nD τ) (ms5 t) fullShare X6 ∗ owns (c : Thread nD τ) (ms6 t) fullShare X7 ∗ owns (c : Thread nD τ) (ms7 t) fullShare (res2 c t X1 X3 X4 X5 X7 (ring1 c t X1 X2 X6 f10) (low1 c t X1 X2 X6 f11) d8) ∗ owns (c : Thread nD τ) (ms8 t) fullShare (codes1 c t X1 X2 X6 d9) ∗ pt c ringM (ring1 c t X1 X2 X6 f10) ∗ pt c lowM (low1 c t X1 X2 X6 f11)) -∗ K ⟨⟩))
      ⊢ wp frame (wpE (defs₀ (F := F)) Variants.none c none) Set.univ (bodyAt0 t) K := by
  unfold bodyAt0
  rw [conv_eq]
  unfold conv2
  rw [show owns (c : Thread nD τ) (ms0 t) fullShare X1 = iprop(∃ f, ⌜(ms0 t).view.read (Elt F) f = X1⌝ ∗ ((ms0 t).view.loc (c : Thread nD τ)) ↦[(ms0 t).view.set]{fullShare} f) from rfl]
  by_cases h1 : k0_cond1 (grid0.coords t) = 1#1 <;> by_cases h2 : k0_cond2 (grid0.coords t) = 1#1
  · simp only [dif_pos h1, dif_pos h2]
    rw [show ring1 c t X1 X2 X6 f10 = (ringM.view.writes (Elt F) f10 (R1 c t h1 X1 X2 X6).1.1) from dif_pos h1, show low1 c t X1 X2 X6 f11 = (lowM.view.writes (Elt F) f11 (R1 c t h1 X1 X2 X6).1.2.1) from dif_pos h1, show codes1 c t X1 X2 X6 d9 = _ from dif_pos h1, show ∀ f g, res2 c t X1 X3 X4 X5 X7 f g d8 = _ from fun f g => dif_pos h2]
    iintro ⟨⟨%f0, %hf0, H0⟩, H1, H2, H3, H4, H5, H6, H7, H8, H10, H11, Hk⟩
    obtain rfl := (hs0 t).eq_unread hf0
    set_option sl_exec.stopBefore "phase1" in sl_exec
    iapply (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6).2 f10 f11
    isplitl [H1]; · iexact H1
    isplitl [H5]; · iexact H5
    isplitl [H8]; · iexists _; iexact H8
    isplitl [H10]; · iexact H10
    isplitl [H11]; · iexact H11
    iintro ⟨H1, H5, ⟨%e9, H8⟩, H10, H11⟩
    iapply (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 (ringM.view.writes (Elt F) f10 (R1 c t h1 X1 X2 X6).1.1) (lowM.view.writes (Elt F) f11 (R1 c t h1 X1 X2 X6).1.2.1)).2
    isplitl [H2]; · iexact H2
    isplitl [H3]; · iexact H3
    isplitl [H4]; · iexact H4
    isplitl [H6]; · iexact H6
    isplitl [H7]; · iexists _; iexact H7
    isplitl [H10]; · iexact H10
    isplitl [H11]; · iexact H11
    iintro ⟨H2, H3, H4, H6, ⟨%e8, H7⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact View.read_writes_of_cover _ _ _ _ _ (cover2 c t h2 X1 X3 X4 X5 X7 _ _)
    isplitl [H8]
    · unfold owns; iexists _; isplitr; swap; · iexact H8
      ipureintro; exact View.read_writes_of_cover _ _ _ _ _ (cover1 c t h1 X1 X2 X6)
    isplitl [H10]; · iexact H10
    iexact H11
  · simp only [dif_pos h1, dif_neg h2]
    rw [show ring1 c t X1 X2 X6 f10 = (ringM.view.writes (Elt F) f10 (R1 c t h1 X1 X2 X6).1.1) from dif_pos h1, show low1 c t X1 X2 X6 f11 = (lowM.view.writes (Elt F) f11 (R1 c t h1 X1 X2 X6).1.2.1) from dif_pos h1, show codes1 c t X1 X2 X6 d9 = _ from dif_pos h1, show ∀ f g, res2 c t X1 X3 X4 X5 X7 f g d8 = d8 from fun f g => dif_neg h2]
    iintro ⟨⟨%f0, %hf0, H0⟩, H1, H2, H3, H4, H5, H6, H7, H8, H10, H11, Hk⟩
    obtain rfl := (hs0 t).eq_unread hf0
    set_option sl_exec.stopBefore "phase1" in sl_exec
    iapply (run1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc1 t X1) h1 X2 X6).2 f10 f11
    isplitl [H1]; · iexact H1
    isplitl [H5]; · iexact H5
    isplitl [H8]; · iexists _; iexact H8
    isplitl [H10]; · iexact H10
    isplitl [H11]; · iexact H11
    iintro ⟨H1, H5, ⟨%e9, H8⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · iexact H7
    isplitl [H8]
    · unfold owns; iexists _; isplitr; swap; · iexact H8
      ipureintro; exact View.read_writes_of_cover _ _ _ _ _ (cover1 c t h1 X1 X2 X6)
    isplitl [H10]; · iexact H10
    iexact H11
  · simp only [dif_neg h1, dif_pos h2]
    rw [show ring1 c t X1 X2 X6 f10 = f10 from dif_neg h1, show low1 c t X1 X2 X6 f11 = f11 from dif_neg h1, show codes1 c t X1 X2 X6 d9 = d9 from dif_neg h1, show ∀ f g, res2 c t X1 X3 X4 X5 X7 f g d8 = _ from fun f g => dif_pos h2]
    iintro ⟨⟨%f0, %hf0, H0⟩, H1, H2, H3, H4, H5, H6, H7, H8, H10, H11, Hk⟩
    obtain rfl := (hs0 t).eq_unread hf0
    set_option sl_exec.stopBefore "phase2" in sl_exec
    iapply (run2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (BitVec.ofNat 32 ((grid0.coords t) 0).val) (sc0 t X1) h2 X3 X4 X5 X7 f10 f11).2
    isplitl [H2]; · iexact H2
    isplitl [H3]; · iexact H3
    isplitl [H4]; · iexact H4
    isplitl [H6]; · iexact H6
    isplitl [H7]; · iexists _; iexact H7
    isplitl [H10]; · iexact H10
    isplitl [H11]; · iexact H11
    iintro ⟨H2, H3, H4, H6, ⟨%e8, H7⟩, H10, H11⟩
    sl_step
    iapply Hk
    isplitl [H0]
    · iexists _; isplitr; · ipureintro; exact (hs0 t).read_unread _
      iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; · iexact H7
      ipureintro; exact View.read_writes_of_cover _ _ _ _ _ (cover2 c t h2 X1 X3 X4 X5 X7 _ _)
    isplitl [H8]
    · iexact H8
    isplitl [H10]; · iexact H10
    iexact H11
  · exact absurd hor (by simp [h1, h2])

end Cert.KernelIdeal.Hand

end
-- ==== Proof.KernelIdeal.HFrame.lean ====
/-
  The program's frame: every execution ends, every argument array is unchanged, every counter is at zero. Nothing is said here
  of what the two results hold.
-/
module

public import proofs.«01_k».proof.Proof.Gen.KernelIdeal.Frame
public import proofs.«01_k».proof.Proof.Gen.KernelIdeal.Skeleton
public import proofs.«01_k».proof.Proof.KernelIdeal.Core
public import Idealize.ShloMosaic.Lib.Pipeline.Frame
public import Idealize.ShloMosaic.Lib.Tactic

@[expose] public section

set_option maxRecDepth 16384

noncomputable section

namespace Cert.KernelIdeal.Hand.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

theorem cond_or (t : Fin cfg0.N) : k0_cond1 (grid0.coords t) = 1#1 ∨ k0_cond2 (grid0.coords t) = 1#1 := by
  revert t; decide +kernel

/-- The two results' windows, forgotten. -/
def forgets0 : Fin 9 → Bool := fun | 7 => true | 8 => true | _ => false

/-- The proof data: inputs at their blocks, the results' windows unnamed, the invariant the class's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ X, owns (c : Thread nD τ) (ms7 t) fullShare X)
    ∗ (∃ X, owns (c : Thread nD τ) (ms8 t) fullShare X))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, owns (c : Thread nD τ) (ms7 t) fullShare X)
    ∗ (∃ X, owns (c : Thread nD τ) (ms8 t) fullShare X))

theorem PhiA_eq (c : Dev nD) : (Pipeline.ΦA spec0 c : sProp 𝕄)
    = iprop(((∃ f, pt c ringM f) ∗ (∃ f, pt c lowM f)) ∗ (∃ r, prngReg c r)) := by
  rw [Pipeline.ΦA, scopedRest0_eq]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, PhiA_eq]
  iintro ⟨⟨⟨⟨%f10, H10⟩, ⟨%f11, H11⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (core c t (cond_or t) (iblk m c 0 t) (iblk m c 1 t) (iblk m c 2 t) (iblk m c 3 t) (iblk m c 4 t) (iblk m c 5 t) (iblk m c 6 t) d7 d8 f10 f11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iintro ⟨H0, H1, H2, H3, H4, H5, H6, H7, H8, H10, H11⟩
  isplitl [H10 H11 Hg]
  · isplitl [H10 H11]
    · isplitl [H10]; · iexists _; iexact H10
      iexists _; iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((congrFun (Pipeline.RDat.ArrAt_in ((dats m 0 c).toRForget forgets0) 0 rfl cfg0.N) _).mp ((h.1 c).1 0)).trans ((A_eq m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.KernelIdeal.Hand.Frame

end
-- ==== Proof.KernelIdeal.Pieces.lean ====
/-
  The second phase's four stores, written once for a general pair of image rows: the left operand as a concatenation over the nine
  taps and the five channel chunks, the narrow products as a sum over the nine taps, and the results as one formula of the two.
-/
module

public import proofs.«01_k».proof.Proof.KernelIdeal.Core

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The block whose results a step computes, and the ring slots of that block, of the next and of the one before. -/
def blkW (i : grid0.Coords) : BitVec 32 := Scalar.subi (BitVec.ofNat 32 (i 0).val) 1#32
def hereN (i : grid0.Coords) : Nat := (Scalar.indexCast (Scalar.remsi (blkW i) 3#32)).toNat
def nxtN (i : grid0.Coords) : Nat := (Scalar.indexCast (Scalar.remsi (Scalar.addi (blkW i) 1#32) 3#32)).toNat
def prvN (i : grid0.Coords) : Nat := (Scalar.indexCast (Scalar.remsi (Scalar.addi (blkW i) 2#32) 3#32)).toNat
/-- Whether the block has a row above it, and one below, in its image. -/
def topB (i : grid0.Coords) : BitVec 1 := Scalar.cmpi .ne (Scalar.remsi (blkW i) 32#32) 0#32
def botB (i : grid0.Coords) : BitVec 1 := Scalar.cmpi .ne (Scalar.remsi (blkW i) 32#32) 31#32

/-- Image row `r - 1` of the block (row 0 is the row above the block, row 9 the row below): its slot, and its place in the slot. -/
def slotN (i : grid0.Coords) (r : Nat) : Nat := if r = 0 then prvN i else if r = 9 then nxtN i else hereN i
def rowN (r : Nat) : Nat := if r = 0 then 7 else if r = 9 then 0 else r - 1

theorem here_lt : ∀ i : grid0.Coords, k0_cond2 i = 1#1 → hereN i < 3 := by decide +kernel
theorem nxt_lt : ∀ i : grid0.Coords, k0_cond2 i = 1#1 → nxtN i < 3 := by decide +kernel
theorem prv_lt : ∀ i : grid0.Coords, k0_cond2 i = 1#1 → prvN i < 3 := by decide +kernel

theorem slot_lt (i : grid0.Coords) (h : k0_cond2 i = 1#1) (r : Nat) : slotN i r < 3 := by
  unfold slotN; split
  · exact prv_lt i h
  split
  · exact nxt_lt i h
  · exact here_lt i h

theorem row_le (r : Nat) (hr : r < 10) : rowN r ≤ 7 := by unfold rowN; split <;> [skip; split] <;> omega

theorem ring_inb {s dx k row : Nat} (hs : s < 3) (hdx : dx < 3) (hk : k < 5) (hrow : row ≤ 1296) :
    ∀ a, (![s, dx, k, row, 0] : Fin 5 → Nat) a + S1x1x1x176x128.size a ≤ S3x3x5x1472x128.size a := by
  intro a
  fin_cases a <;> simp [S1x1x1x176x128, S3x3x5x1472x128] <;> omega

theorem low_inb {s t row : Nat} (hs : s < 3) (ht : t < 2) (hrow : row ≤ 1248) :
    ∀ a, (![s, t, row, 0] : Fin 4 → Nat) a + S1x1x176x128.size a ≤ S3x2x1424x128.size a := by
  intro a
  fin_cases a <;> simp [S1x1x176x128, S3x2x1424x128] <;> omega

/-- One image row of the codes shifted by `dx`, zero outside the image. -/
def ringRow (i : grid0.Coords) (h : k0_cond2 i = 1#1) {c : Dev nD} (f : Buf (Elt F) (ringM.view.loc (c : Thread nD τ)))
    (dx k r : Nat) (hdx : dx < 3) (hk : k < 5) (hr : r < 10) : FVec F S176x128 .fp8e4m3 :=
  let v : FVec F S176x128 .fp8e4m3 := shapeCast S176x128 (View.readAt (Elt F) ringM.view
    (Rect.unit (s := S3x3x5x1472x128) ![slotN i r, dx, k, 32 + rowN r * 176, 0] S1x1x1x176x128.size (ring_inb (slot_lt i h r) hdx hk (by have := row_le r hr; omega))).toLoadRect f)
    shapeCasts_S1x1x1x176x128_S176x128
  if r = 0 then Scalar.select (topB i) v (broadcast S176x128 (Scalar.ofBits .fp8e4m3 0x00#8))
  else if r = 9 then Scalar.select (botB i) v (broadcast S176x128 (Scalar.ofBits .fp8e4m3 0x00#8))
  else v

/-- Columns `128 t` to `128 t + 127` of the left operand of row pair `j`. -/
def colPiece (i : grid0.Coords) (h : k0_cond2 i = 1#1) {c : Dev nD} (f : Buf (Elt F) (ringM.view.loc (c : Thread nD τ)))
    (j : Nat) (hj : j < 4) (t : Fin 45) : FVec F S352x128 .fp8e4m3 :=
  concatenate S352x128 0 [⟨S176x128, ringRow i h f (t.val / 5 % 3) (t.val % 5) (2 * j + t.val / 15) (Nat.mod_lt _ (by decide)) (Nat.mod_lt _ (by decide)) (by omega)⟩,
    ⟨S176x128, ringRow i h f (t.val / 5 % 3) (t.val % 5) (2 * j + 1 + t.val / 15) (Nat.mod_lt _ (by decide)) (Nat.mod_lt _ (by decide)) (by omega)⟩]
    concatenates_S176x128_S176x128_S352x128_d0

theorem lhs_concatenates (f : Fin 45 → FVec F S352x128 .fp8e4m3) :
    Shape.Concatenates ((List.ofFn fun n : Fin 45 => (⟨S352x128, f n⟩ : (s : Shape) × (s.Idx → F .fp8e4m3))).map (·.1)) S352x5760 1 := by
  have : (List.ofFn fun n : Fin 45 => (⟨S352x128, f n⟩ : (s : Shape) × (s.Idx → F .fp8e4m3))).map (·.1) = List.replicate 45 S352x128 := by
    rw [List.map_ofFn]; exact List.ofFn_const 45 S352x128
  rw [this]; decide

/-- The left operand of row pair `j`. -/
def lhsP (i : grid0.Coords) (h : k0_cond2 i = 1#1) {c : Dev nD} (f : Buf (Elt F) (ringM.view.loc (c : Thread nD τ)))
    (j : Nat) (hj : j < 4) : FVec F S352x5760 .fp8e4m3 :=
  concatenate S352x5760 1 (List.ofFn fun t : Fin 45 => (⟨S352x128, colPiece i h f j hj t⟩ : (s : Shape) × (s.Idx → F .fp8e4m3))) (lhs_concatenates _)

/-- One image row of the narrow products, shifted by `dx - 1` and zero outside the image. -/
def zRow (i : grid0.Coords) (h : k0_cond2 i = 1#1) {c : Dev nD} (f : Buf (Elt F) (lowM.view.loc (c : Thread nD τ)))
    (t dx r : Nat) (ht : t < 2) (hdx : dx < 3) (hr : r < 10) : FVec F S176x128 .f32 :=
  let v : FVec F S176x128 .f32 := shapeCast S176x128 (View.readAt (Elt F) lowM.view
    (Rect.unit (s := S3x2x1424x128) ![slotN i r, t, 7 + dx + rowN r * 176, 0] S1x1x176x128.size (low_inb (slot_lt i h r) ht (by have := row_le r hr; omega))).toLoadRect f)
    shapeCasts_S1x1x176x128_S176x128
  let v : FVec F S176x128 .f32 :=
    if r = 0 then Scalar.select (topB i) v (broadcast S176x128 (Scalar.ofBits .f32 0x00000000#32))
    else if r = 9 then Scalar.select (botB i) v (broadcast S176x128 (Scalar.ofBits .f32 0x00000000#32))
    else v
  if dx = 0 then select (cmpi .eq (iota .tc S176x128 32 [0] iota_S176x128_d0_w32) (broadcast S176x128 0#32)) (broadcast S176x128 (Scalar.ofBits .f32 0x00000000#32)) v
  else if dx = 2 then select (cmpi .eq (iota .tc S176x128 32 [0] iota_S176x128_d0_w32) (broadcast S176x128 175#32)) (broadcast S176x128 (Scalar.ofBits .f32 0x00000000#32)) v
  else v

/-- Tap `tap` of row `rr`'s narrow products, rotated so that its lanes are the first twenty. -/
def zTap (i : grid0.Coords) (h : k0_cond2 i = 1#1) {c : Dev nD} (f : Buf (Elt F) (lowM.view.loc (c : Thread nD τ)))
    (rr tap : Nat) (hrr : rr < 8) (htap : tap < 9) : FVec F S176x128 .f32 :=
  let v := zRow i h f (tap / 6) (tap % 3) (rr + tap / 3) (by omega) (by omega) (by omega)
  if tap % 6 = 0 then v else dynamicRotate 1 (BitVec.ofNat 32 (128 - 20 * (tap % 6))) none v rotates_S176x128_d1

/-- Row `rr`'s narrow products, scaled, in its first twenty lanes. -/
def dRow (i : grid0.Coords) (h : k0_cond2 i = 1#1) {c : Dev nD} (f : Buf (Elt F) (lowM.view.loc (c : Thread nD τ))) (v0 : Elt F .f32)
    (rr : Nat) (hrr : rr < 8) : FVec F S176x128 .bf16 :=
  let z := fun (tap : Nat) (ht : tap < 9) => zTap i h f rr tap hrr ht
  let d : FVec F S176x128 .f32 := addf (addf (addf (addf (addf (addf (addf (addf (z 0 (by decide)) (z 1 (by decide))) (z 2 (by decide))) (z 3 (by decide)))
    (z 4 (by decide))) (z 5 (by decide))) (z 6 (by decide))) (z 7 (by decide))) (z 8 (by decide))
  truncf .bf16 (select (cmpi .slt (iota .tc S176x128 32 [1] iota_S176x128_d1_w32) (broadcast S176x128 20#32)) (mulf d (broadcast S176x128 v0))
    (broadcast S176x128 (Scalar.ofBits .f32 0x00000000#32))) bitsLt_bf16_f32

def dMat (i : grid0.Coords) (h : k0_cond2 i = 1#1) {c : Dev nD} (f : Buf (Elt F) (lowM.view.loc (c : Thread nD τ))) (v0 : Elt F .f32)
    (j : Nat) (hj : j < 4) : FVec F S352x128 .bf16 :=
  concatenate S352x128 0 [⟨S176x128, dRow i h f v0 (2 * j) (by omega)⟩, ⟨S176x128, dRow i h f v0 (2 * j + 1) (by omega)⟩]
    concatenates_S176x128_S176x128_S352x128_d0

/-- The results of row pair `j` from the two left operands, the weights and the scales. -/
def yVal (v0 : Elt F .f32) (L : FVec F S352x5760 .fp8e4m3) (D : FVec F S352x128 .bf16) (w : FVec F S5760x1280 .fp8e4m3)
    (ws b : FVec F S1x1280 .f32) (u : FVec F S128x1280 .bf16) : FVec F S352x1280 .bf16 :=
  truncf .bf16 (addf (addf (mulf (mulf (matmul dot_S352x5760_S5760x1280_S352x1280_1_0_0_1_n_n none L w (constant S352x1280 .f32 0x00000000#32))
      (broadcast S352x1280 v0)) (broadcastTo S352x1280 ws broadcasts_S1x1280_S352x1280)) (broadcastTo S352x1280 b broadcasts_S1x1280_S352x1280))
    (mulf (broadcast S352x1280 (Scalar.ofBits .f32 0x3ECCCCCD#32)) (matmul dot_S352x128_S128x1280_S352x1280_1_0_0_1_n_n none D u (constant S352x1280 .f32 0x00000000#32))))
    bitsLt_bf16_f32

section
variable (c : Dev nD) (i : grid0.Coords) (a1 : Memref sig .tc .smem S1x2 .f32) (h1 : a1.IsWhole) (a2 : Memref sig .tc .vmem S1408x640 .bf16) (h2 : a2.IsWhole) (a3 : Memref sig .tc .vmem S5760x1280 .fp8e4m3) (h3 : a3.IsWhole) (a4 : Memref sig .tc .vmem S1x1280 .f32) (h4 : a4.IsWhole) (a5 : Memref sig .tc .vmem S1x1280 .f32) (h5 : a5.IsWhole) (a6 : Memref sig .tc .vmem S640x256 .bf16) (h6 : a6.IsWhole) (a7 : Memref sig .tc .vmem S128x1280 .bf16) (h7 : a7.IsWhole) (a8 : Memref sig .tc .vmem S1408x1280 .bf16) (h8 : a8.IsWhole) (a9 : Memref sig .tc .vmem S1408x640 .fp8e4m3) (h9 : a9.IsWhole)
  (v0 : Elt F .f32) (h : k0_cond2 i = 1#1) (X3 : Vec F S5760x1280 .fp8e4m3) (X4 X5 : Vec F S1x1280 .f32) (X7 : Vec F S128x1280 .bf16)
  (f10 : Buf (Elt F) (ringM.view.loc (c : Thread nD τ))) (f11 : Buf (Elt F) (lowM.view.loc (c : Thread nD τ)))

/-- What the body stores for row pair `j`. -/
def yPiece (j : Nat) (hj : j < 4) : FVec F S352x1280 .bf16 :=
  yVal v0 (lhsP i h f10 j hj) (dMat i h f11 v0 j hj)
    (shapeCast S5760x1280 (View.readAt (Elt F) a3.view (Rect.unit (s := S5760x1280) ![0, 0] S5760x1280.size inb_S5760x1280_S5760x1280_0_0).toLoadRect (h3.unread X3)) shapeCasts_S5760x1280_S5760x1280)
    (shapeCast S1x1280 (View.readAt (Elt F) a4.view (Rect.unit (s := S1x1280) ![0, 0] S1x1280.size inb_S1x1280_S1x1280_0_0).toLoadRect (h4.unread X4)) shapeCasts_S1x1280_S1x1280)
    (shapeCast S1x1280 (View.readAt (Elt F) a5.view (Rect.unit (s := S1x1280) ![0, 0] S1x1280.size inb_S1x1280_S1x1280_0_0).toLoadRect (h5.unread X5)) shapeCasts_S1x1280_S1x1280)
    (shapeCast S128x1280 (View.readAt (Elt F) a7.view (Rect.unit (s := S128x1280) ![0, 0] S128x1280.size inb_S128x1280_S128x1280_0_0).toLoadRect (h7.unread X7)) shapeCasts_S128x1280_S128x1280)

/-- The second phase's stores are these four pieces. -/
theorem run2_eq : (run2 c i a1 h1 a2 h2 a3 h3 a4 h4 a5 h5 a6 h6 a7 h7 a8 h8 a9 h9 (BitVec.ofNat 32 (i 0).val) v0 h X3 X4 X5 X7 f10 f11).1 =
    [⟨Rect.unit (s := S1408x1280) ![1056, 0] S352x1280.size inb_S1408x1280_S352x1280_1056_0, yPiece c i a3 h3 a4 h4 a5 h5 a7 h7 v0 h X3 X4 X5 X7 f10 f11 3 (by decide)⟩,
      ⟨Rect.unit (s := S1408x1280) ![704, 0] S352x1280.size inb_S1408x1280_S352x1280_704_0, yPiece c i a3 h3 a4 h4 a5 h5 a7 h7 v0 h X3 X4 X5 X7 f10 f11 2 (by decide)⟩,
      ⟨Rect.unit (s := S1408x1280) ![352, 0] S352x1280.size inb_S1408x1280_S352x1280_352_0, yPiece c i a3 h3 a4 h4 a5 h5 a7 h7 v0 h X3 X4 X5 X7 f10 f11 1 (by decide)⟩,
      ⟨Rect.unit (s := S1408x1280) ![0, 0] S352x1280.size inb_S1408x1280_S352x1280_0_0, yPiece c i a3 h3 a4 h4 a5 h5 a7 h7 v0 h X3 X4 X5 X7 f10 f11 0 (by decide)⟩] := by
  sl_kernel_rfl
end

end Cert.KernelIdeal.Hand

end
-- ==== Proof.KernelIdeal.Stores.lean ====
/-
  The first phase's stores, written once for a general channel chunk: the codes with their pads, the two shifted copies made from
  what was stored, and the narrow products.
-/
module

public import proofs.«01_k».proof.Proof.KernelIdeal.Core

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The ring slot a step writes. -/
def curN (i : grid0.Coords) : Nat := (Scalar.indexCast (Scalar.remsi (BitVec.ofNat 32 (i 0).val) 3#32)).toNat

theorem curN_eq : ∀ i : grid0.Coords, curN i = (i 0).val % 3 := by decide +kernel

theorem curN_lt (i : grid0.Coords) : curN i < 3 := by rw [curN_eq]; exact Nat.mod_lt _ (by decide)

theorem ring_inb' {n s dx k row : Nat} (hs : s < 3) (hdx : dx < 3) (hk : k < 5) (hrow : row + n ≤ 1472) :
    ∀ a, (![s, dx, k, row, 0] : Fin 5 → Nat) a + (⟨5, ![1, 1, 1, n, 128]⟩ : Shape).size a ≤ S3x3x5x1472x128.size a := by
  intro a
  fin_cases a <;> simp [S3x3x5x1472x128] <;> omega

/-- A box of the ring: `n` rows of one slot, shift and chunk. -/
abbrev ringBox (n s dx k row : Nat) (hs : s < 3) (hdx : dx < 3) (hk : k < 5) (hrow : row + n ≤ 1472) : Rect S3x3x5x1472x128 :=
  Rect.unit (s := S3x3x5x1472x128) ![s, dx, k, row, 0] (⟨5, ![1, 1, 1, n, 128]⟩ : Shape).size (ring_inb' hs hdx hk hrow)

theorem chunk_slices {k : Nat} (hk : k < 5) : S1408x640.Slices ![0, 128 * k] S1408x128 := by
  have : k = 0 ∨ k = 1 ∨ k = 2 ∨ k = 3 ∨ k = 4 := by omega
  rcases this with rfl | rfl | rfl | rfl | rfl <;> decide

abbrev RPiece (F : FTy → Type) := View.Piece (Elt F) S3x3x5x1472x128 .fp8e4m3

/-- Chunk `k` of the codes, as stored. -/
def wordsV (q : FVec F S1408x640 .fp8e4m3) (k : Nat) (hk : k < 5) : FVec F S1x1x1x1408x128 .fp8e4m3 :=
  shapeCast S1x1x1x1408x128 (extractStridedSlice S1408x128 ![0, 128 * k] q (chunk_slices hk)) shapeCasts_S1408x128_S1x1x1x1408x128

def zerosV : FVec F S1x1x1x32x128 .fp8e4m3 :=
  shapeCast S1x1x1x32x128 (broadcast S32x128 (Scalar.ofBits .fp8e4m3 0x00#8)) shapeCasts_S32x128_S1x1x1x32x128

/-- The stores of the codes and of their pads, newest first, for the chunks before `n`. -/
def baseL (i : grid0.Coords) (q : FVec F S1408x640 .fp8e4m3) : (n : Nat) → n ≤ 5 → List (RPiece F)
  | 0, _ => []
  | n + 1, hn =>
    ⟨ringBox 32 (curN i) 1 n 0 (curN_lt i) (by decide) hn (by decide), zerosV⟩ ::
    ⟨ringBox 32 (curN i) 1 n 1440 (curN_lt i) (by decide) hn (by decide), zerosV⟩ ::
    ⟨ringBox 1408 (curN i) 1 n 32 (curN_lt i) (by decide) hn (by decide), wordsV q n hn⟩ :: baseL i q n (Nat.le_of_succ_le hn)

/-- The copy shifted down by one row of pixels, zero in the image's first column. -/
def leftV (cv bv : FVec F S1x1x1x1408x128 .fp8e4m3) : FVec F S1x1x1x1408x128 .fp8e4m3 :=
  shapeCast S1x1x1x1408x128 (select k0_pay22 (broadcast S1408x128 (Scalar.ofBits .fp8e4m3 0x00#8))
    (concatenate S1408x128 0 [⟨S1x128, extractStridedSlice S1x128 ![3, 0] (shapeCast S1408x128 bv shapeCasts_S1x1x1x1408x128_S1408x128) slices_S1408x128_o3_0_S1x128⟩,
      ⟨S1407x128, extractStridedSlice S1407x128 ![0, 0] (shapeCast S1408x128 cv shapeCasts_S1x1x1x1408x128_S1408x128) slices_S1408x128_o0_0_S1407x128⟩]
      concatenates_S1x128_S1407x128_S1408x128_d0)) shapeCasts_S1408x128_S1x1x1x1408x128

/-- The copy shifted up by one row of pixels, zero in the image's last column. -/
def rightV (cv av : FVec F S1x1x1x1408x128 .fp8e4m3) : FVec F S1x1x1x1408x128 .fp8e4m3 :=
  shapeCast S1x1x1x1408x128 (select k0_pay23 (broadcast S1408x128 (Scalar.ofBits .fp8e4m3 0x00#8))
    (concatenate S1408x128 0 [⟨S1407x128, extractStridedSlice S1407x128 ![1, 0] (shapeCast S1408x128 cv shapeCasts_S1x1x1x1408x128_S1408x128) slices_S1408x128_o1_0_S1407x128⟩,
      ⟨S1x128, extractStridedSlice S1x128 ![1404, 0] (shapeCast S1408x128 av shapeCasts_S1x1x1x1408x128_S1408x128) slices_S1408x128_o1404_0_S1x128⟩]
      concatenates_S1407x128_S1x128_S1408x128_d0)) shapeCasts_S1408x128_S1x1x1x1408x128

/-- What the ring is read to hold after the stores `L`: 1,408 rows of chunk `k` of the unshifted codes from row `row`. -/
def rdV (i : grid0.Coords) (L : List (RPiece F)) (k row : Nat) (hk : k < 5) (hrow : row + 1408 ≤ 1472) : FVec F S1x1x1x1408x128 .fp8e4m3 :=
  ringM.view.readCov L (ringBox 1408 (curN i) 1 k row (curN_lt i) (by decide) hk hrow).toLoadRect

/-- All the ring's stores of a step, newest first, with the shifted copies of the chunks before `n`. -/
def ringL (i : grid0.Coords) (q : FVec F S1408x640 .fp8e4m3) : (n : Nat) → n ≤ 5 → List (RPiece F)
  | 0, _ => baseL i q 5 (by decide)
  | n + 1, hn =>
    let L := ringL i q n (Nat.le_of_succ_le hn)
    ⟨ringBox 1408 (curN i) 2 n 32 (curN_lt i) (by decide) hn (by decide), rightV (rdV i L n 32 hn (by decide)) (rdV i L n 36 hn (by decide))⟩ ::
    ⟨ringBox 1408 (curN i) 0 n 32 (curN_lt i) (by decide) hn (by decide), leftV (rdV i L n 32 hn (by decide)) (rdV i L n 28 hn (by decide))⟩ :: L

theorem low_inb' {s t : Nat} (hs : s < 3) (ht : t < 2) :
    ∀ a, (![s, t, 8, 0] : Fin 4 → Nat) a + S1x1x1408x128.size a ≤ S3x2x1424x128.size a := by
  intro a
  fin_cases a <;> simp [S3x2x1424x128, S1x1x1408x128] <;> omega

/-- Half `t` of the narrow products, as stored. -/
def zV (q : FVec F S1408x640 .fp8e4m3) (dn : FVec F S640x256 .bf16) : FVec F S1408x256 .f32 :=
  matmul dot_S1408x640_S640x256_S1408x256_1_0_0_1_n_n none (extf .bf16 q bitsLt_fp8e4m3_bf16) (shapeCast S640x256 dn shapeCasts_S640x256_S640x256)
    (constant S1408x256 .f32 0x00000000#32)

def lowL (i : grid0.Coords) (q : FVec F S1408x640 .fp8e4m3) (dn : FVec F S640x256 .bf16) : List (View.Piece (Elt F) S3x2x1424x128 .f32) :=
  [⟨Rect.unit (s := S3x2x1424x128) ![curN i, 1, 8, 0] S1x1x1408x128.size (low_inb' (curN_lt i) (by decide)),
      shapeCast S1x1x1408x128 (extractStridedSlice S1408x128 ![0, 128] (zV q dn) slices_S1408x256_o0_128_S1408x128) shapeCasts_S1408x128_S1x1x1408x128⟩,
    ⟨Rect.unit (s := S3x2x1424x128) ![curN i, 0, 8, 0] S1x1x1408x128.size (low_inb' (curN_lt i) (by decide)),
      shapeCast S1x1x1408x128 (extractStridedSlice S1408x128 ![0, 0] (zV q dn) slices_S1408x256_o0_0_S1408x128) shapeCasts_S1408x128_S1x1x1408x128⟩]

section
variable (c : Dev nD) (i : grid0.Coords) (a1 : Memref sig .tc .smem S1x2 .f32) (h1 : a1.IsWhole) (a2 : Memref sig .tc .vmem S1408x640 .bf16) (h2 : a2.IsWhole) (a3 : Memref sig .tc .vmem S5760x1280 .fp8e4m3) (h3 : a3.IsWhole) (a4 : Memref sig .tc .vmem S1x1280 .f32) (h4 : a4.IsWhole) (a5 : Memref sig .tc .vmem S1x1280 .f32) (h5 : a5.IsWhole) (a6 : Memref sig .tc .vmem S640x256 .bf16) (h6 : a6.IsWhole) (a7 : Memref sig .tc .vmem S128x1280 .bf16) (h7 : a7.IsWhole) (a8 : Memref sig .tc .vmem S1408x1280 .bf16) (h8 : a8.IsWhole) (a9 : Memref sig .tc .vmem S1408x640 .fp8e4m3) (h9 : a9.IsWhole)
  (v1 : Elt F .f32) (h : k0_cond1 i = 1#1) (X2 : Vec F S1408x640 .bf16) (X6 : Vec F S640x256 .bf16)

/-- The block's codes. -/
def qV : FVec F S1408x640 .fp8e4m3 :=
  k0_pay3 v1 (View.readAt (Elt F) a2.view (Rect.unit (s := S1408x640) ![0, 0] S1408x640.size inb_S1408x640_S1408x640_0_0).toLoadRect (h2.unread X2))

/-- The first phase's stores are these. -/
theorem run1_ring : (run1 c i a1 h1 a2 h2 a3 h3 a4 h4 a5 h5 a6 h6 a7 h7 a8 h8 a9 h9 (BitVec.ofNat 32 (i 0).val) v1 h X2 X6).1.1 =
    ringL i (qV a2 h2 v1 X2) 5 (by decide) := by
  sl_kernel_rfl

theorem run1_low : (run1 c i a1 h1 a2 h2 a3 h3 a4 h4 a5 h5 a6 h6 a7 h7 a8 h8 a9 h9 (BitVec.ofNat 32 (i 0).val) v1 h X2 X6).1.2.1 =
    lowL i (qV a2 h2 v1 X2) (View.readAt (Elt F) a6.view (Rect.unit (s := S640x256) ![0, 0] S640x256.size inb_S640x256_S640x256_0_0).toLoadRect (h6.unread X6)) := by
  sl_kernel_rfl

theorem run1_codes : (run1 c i a1 h1 a2 h2 a3 h3 a4 h4 a5 h5 a6 h6 a7 h7 a8 h8 a9 h9 (BitVec.ofNat 32 (i 0).val) v1 h X2 X6).1.2.2 =
    [⟨Rect.unit (s := S1408x640) ![0, 0] S1408x640.size inb_S1408x640_S1408x640_0_0, qV a2 h2 v1 X2⟩] := by
  sl_kernel_rfl
end

end Cert.KernelIdeal.Hand

end
-- ==== Proof.Spec.lean ====
/-
  The convolution with its low-rank branch as one formula of the codes: what both programs compute over the extended reals. Pixels
  are numbered row-major through the two images of 256 by 176.
-/
module

public import Idealize.ShloMosaic.Lib.Pointwise

@[expose] public section

noncomputable section

namespace Cert.Spec

open Idealize.ShloMosaic Idealize.ShloMosaic.Pointwise

/-- The quantiser: scale by the inverse scale, clip to the format's range. -/
def codeS (inv x : EReal) : EReal := min (Ideal.ofBits .f32 0x43E00000#32) (max (Ideal.ofBits .f32 0xC3E00000#32) (x * inv))

/-- Codes shifted by `dx - 1` pixels along a row of the image, zero outside the row. -/
def shiftV (q : Nat → Nat → EReal) (dx x ch : Nat) : EReal :=
  if dx = 1 then q x ch else if dx = 0 then (if x % 176 = 0 then 0 else q (x - 1) ch) else (if x % 176 = 175 then 0 else q (x + 1) ch)

/-- What tap `(dy, dx)` reads of `q` for the pixel with row-major number `R`: the neighbour's entry, zero outside the image. -/
def tap (q : Nat → Nat → EReal) (R dy dx ch : Nat) : EReal :=
  if dy = 0 ∧ R / 176 % 256 = 0 then 0 else if dy = 2 ∧ R / 176 % 256 = 255 then 0 else shiftV q dx (R + 176 * dy - 176) ch

theorem shiftV_add (q : Nat → Nat → EReal) (m dx x ch : Nat) :
    shiftV (fun x ch => q (1408 * m + x) ch) dx x ch = shiftV q dx (1408 * m + x) ch := by
  unfold shiftV
  have h1 : (1408 * m + x) % 176 = x % 176 := by omega
  rw [h1]
  split
  · rfl
  split
  · split
    · rfl
    · exact congrArg (fun y => q y ch) (by omega)
  · split
    · rfl
    · exact congrArg (fun y => q y ch) (by omega)

/-- The convolution of the codes with the weights, nine taps of 640 channels. -/
def mainS (cd : Nat → Nat → EReal) (W : Fin 9 → Fin 640 → Fin 1280 → EReal) (R : Nat) (o : Fin 1280) : EReal :=
  ∑ t : Fin 9, ∑ ch : Fin 640, tap cd R (t.val / 3) (t.val % 3) ch.val * W t ch o

/-- The convolution of the codes with the low-rank branch's first factor. -/
def lowS (cd : Nat → Nat → EReal) (D : Fin 9 → Fin 640 → Fin 20 → EReal) (R : Nat) (r : Fin 20) : EReal :=
  ∑ t : Fin 9, ∑ ch : Fin 640, tap cd R (t.val / 3) (t.val % 3) ch.val * D t ch r

/-- One result. -/
def yS (cd : Nat → Nat → EReal) (sc : EReal) (W : Fin 9 → Fin 640 → Fin 1280 → EReal) (ws b : Fin 1280 → EReal)
    (D : Fin 9 → Fin 640 → Fin 20 → EReal) (U : Fin 20 → Fin 1280 → EReal) (R : Nat) (o : Fin 1280) : EReal :=
  mainS cd W R o * sc * ws o + b o + Ideal.ofBits .f32 0x3ECCCCCD#32 * ∑ r : Fin 20, lowS cd D R r * sc * U r o

theorem sum9 (f : Fin 9 → EReal) : ∑ t, f t = f 0 + f 1 + f 2 + f 3 + f 4 + f 5 + f 6 + f 7 + f 8 := by
  simp only [Fin.sum_univ_castSucc, Fin.sum_univ_zero, zero_add]
  rfl

theorem tap_sum (cd : Nat → Nat → EReal) {n : Nat} (d : Fin n → EReal) (R dy dx m : Nat) :
    tap (fun x _ => ∑ ch : Fin n, cd x ch.val * d ch) R dy dx m = ∑ ch : Fin n, tap cd R dy dx ch.val * d ch := by
  have hz : ∑ ch : Fin n, (0 : EReal) * d ch = 0 := Finset.sum_eq_zero fun ch _ => zero_mul _
  unfold tap
  split
  · exact hz.symm
  split
  · exact hz.symm
  unfold shiftV
  split
  · rfl
  split
  · split
    · exact hz.symm
    · rfl
  · split
    · exact hz.symm
    · rfl

end Cert.Spec

end
-- ==== Proof.KernelIdeal.RingVal.lean ====
/-
  What the first phase's stores leave in the rings: the codes, their two shifted copies, and the narrow products, as functions of the
  block's codes.
-/
module

public import proofs.«01_k».proof.Proof.KernelIdeal.Stores
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Cert.Spec

theorem sel_one {α : Type} (a b : α) : Scalar.select 1#1 a b = a := rfl
theorem sel_zero {α : Type} (a b : α) : Scalar.select 0#1 a b = b := rfl
theorem ofBits_f8 : Ideal.ofBits .fp8e4m3 0#8 = 0 := Ideal.ofBits_zero _

/-- A block's codes at natural coordinates. -/
def qn (q : FVec Ideal S1408x640 .fp8e4m3) (x ch : Nat) : EReal :=
  if h : x < 1408 ∧ ch < 640 then q (ix2 ⟨x, h.1⟩ ⟨ch, h.2⟩) else 0

/-- What every store of the ring writes at a place. -/
def ringG (q : FVec Ideal S1408x640 .fp8e4m3) (y : S3x3x5x1472x128.Idx) : EReal :=
  if 32 ≤ (y 3).val ∧ (y 3).val < 1440 then shiftV (qn q) (y 1).val ((y 3).val - 32) (128 * (y 2).val + (y 4).val) else 0

theorem wordsV_apply (q : FVec Ideal S1408x640 .fp8e4m3) (k : Nat) (hk : k < 5) (a b e : Fin 1) (x : Fin 1408) (l : Fin 128) :
    wordsV q k hk (ix5 a b e x l) = q (ix2 x ⟨128 * k + l.val, by omega⟩) := by
  have : k = 0 ∨ k = 1 ∨ k = 2 ∨ k = 3 ∨ k = 4 := by omega
  rcases this with rfl | rfl | rfl | rfl | rfl <;> pointwise [wordsV]

theorem zerosV_apply (j : S1x1x1x32x128.Idx) : (zerosV : FVec Ideal S1x1x1x32x128 .fp8e4m3) j = 0 := by
  pointwise [zerosV]
  exact Ideal.ofBits_zero _

theorem mask_left (x : Fin 1408) (l : Fin 128) : k0_pay22 (ix2 x l) = if x.val % 176 = 0 then 1#1 else 0#1 := by
  pointwise [k0_pay22, k0_pay21]
  revert x; decide +kernel

theorem mask_right (x : Fin 1408) (l : Fin 128) : k0_pay23 (ix2 x l) = if x.val % 176 = 175 then 1#1 else 0#1 := by
  pointwise [k0_pay23, k0_pay21]
  revert x; decide +kernel

theorem leftV_apply (cv bv : FVec Ideal S1x1x1x1408x128 .fp8e4m3) (a b e : Fin 1) (x : Fin 1408) (l : Fin 128) :
    leftV cv bv (ix5 a b e x l) = if h : x.val % 176 = 0 then 0 else cv (ix5 0 0 0 ⟨x.val - 1, by omega⟩ l) := by
  pointwise [leftV, mask_left]
  by_cases h : x.val % 176 = 0
  · rw [if_pos h, dif_pos h, sel_one, ofBits_f8]
  · rw [if_neg h, dif_neg h, dif_neg (by omega), sel_zero]

theorem rightV_apply (cv av : FVec Ideal S1x1x1x1408x128 .fp8e4m3) (a b e : Fin 1) (x : Fin 1408) (l : Fin 128) :
    rightV cv av (ix5 a b e x l) = if h : x.val % 176 = 175 then 0 else cv (ix5 0 0 0 ⟨x.val + 1, by omega⟩ l) := by
  pointwise [rightV, mask_right]
  by_cases h : x.val % 176 = 175
  · rw [if_pos h, dif_pos h, sel_one, ofBits_f8]
  · rw [if_neg h, dif_neg h, dif_pos (by omega), sel_zero]
    simp only [Nat.add_comm]

/-- A piece of the ring agrees with the block's codes. -/
def PieceOK (q : FVec Ideal S1408x640 .fp8e4m3) (p : RPiece Ideal) : Prop := ∀ x : p.1.shape.Idx, p.2 x = ringG q (p.1.emb x)

theorem ringBox_emb {n s dx k row : Nat} (hs : s < 3) (hdx : dx < 3) (hk : k < 5) (hrow : row + n ≤ 1472) (a b e : Fin 1) (x : Fin n) (l : Fin 128) :
    (ringBox n s dx k row hs hdx hk hrow).emb (ix5 a b e x l) = ix5 ⟨s, hs⟩ ⟨dx, hdx⟩ ⟨k, hk⟩ ⟨row + x.val, by omega⟩ l := by
  have ha := a.isLt; have hb := b.isLt; have he := e.isLt
  refine Rect.emb_eq_of_coords _ _ _ fun a' => ?_
  fin_cases a'
  · show s = s + 1 * a.val; omega
  · show dx = dx + 1 * b.val; omega
  · show k = k + 1 * e.val; omega
  · show row + x.val = row + 1 * x.val; omega
  · show l.val = 0 + 1 * l.val; omega

theorem ringG_ix5 (q : FVec Ideal S1408x640 .fp8e4m3) (s dx : Fin 3) (k : Fin 5) (row : Fin 1472) (l : Fin 128) :
    ringG q (ix5 s dx k row l) = if 32 ≤ row.val ∧ row.val < 1440 then shiftV (qn q) dx.val (row.val - 32) (128 * k.val + l.val) else 0 := rfl

theorem baseL_ok (i : grid0.Coords) (q : FVec Ideal S1408x640 .fp8e4m3) : (n : Nat) → (hn : n ≤ 5) → ∀ p ∈ baseL i q n hn, PieceOK q p
  | 0, _ => by intro p hp; cases hp
  | n + 1, hn => by
    intro p hp
    simp only [baseL, List.mem_cons] at hp
    rcases hp with rfl | rfl | rfl | hp
    · intro x
      obtain ⟨a, b, e, x, l, rfl⟩ : ∃ (a b e : Fin 1) (y : Fin 32) (l : Fin 128), x = ix5 a b e y l := ⟨_, _, _, _, _, eq_ix5 _⟩
      rw [ringBox_emb (curN_lt i) (by decide) hn (by decide) a b e x l, ringG_ix5, if_neg (by simp only; omega)]
      exact zerosV_apply (ix5 a b e x l)
    · intro x
      obtain ⟨a, b, e, x, l, rfl⟩ : ∃ (a b e : Fin 1) (y : Fin 32) (l : Fin 128), x = ix5 a b e y l := ⟨_, _, _, _, _, eq_ix5 _⟩
      rw [ringBox_emb (curN_lt i) (by decide) hn (by decide) a b e x l, ringG_ix5, if_neg (by simp only; omega)]
      exact zerosV_apply (ix5 a b e x l)
    · intro x
      obtain ⟨a, b, e, x, l, rfl⟩ : ∃ (a b e : Fin 1) (y : Fin 1408) (l : Fin 128), x = ix5 a b e y l := ⟨_, _, _, _, _, eq_ix5 _⟩
      rw [ringBox_emb (curN_lt i) (by decide) hn (by decide) a b e x l, ringG_ix5, if_pos (by simp only; omega)]
      refine (wordsV_apply q n hn a b e x l).trans ?_
      have hx := x.isLt; have hl := l.isLt
      simp only [shiftV, if_pos, qn, Nat.add_sub_cancel_left]
      rw [dif_pos ⟨by omega, by omega⟩]
    · exact baseL_ok i q n _ p hp

/-- The unshifted codes are covered. -/
theorem baseL_cover (i : grid0.Coords) (q : FVec Ideal S1408x640 .fp8e4m3) (k : Nat) : (n : Nat) → (hn : n ≤ 5) → (hk : k < n) →
    ⟨ringBox 1408 (curN i) 1 k 32 (curN_lt i) (by decide) (by omega) (by decide), wordsV q k (by omega)⟩ ∈ baseL i q n hn
  | 0, _, h => by omega
  | n + 1, hn, h => by
    simp only [baseL, List.mem_cons]
    by_cases hk : k = n
    · subst hk; exact Or.inr (Or.inr (Or.inl rfl))
    · exact Or.inr (Or.inr (Or.inr (baseL_cover i q k n _ (by omega))))

theorem ringL_base (i : grid0.Coords) (q : FVec Ideal S1408x640 .fp8e4m3) (p : RPiece Ideal) (hp : p ∈ baseL i q 5 (by decide)) :
    (n : Nat) → (hn : n ≤ 5) → p ∈ ringL i q n hn
  | 0, _ => hp
  | n + 1, hn => List.mem_cons_of_mem _ (List.mem_cons_of_mem _ (ringL_base i q p hp n _))

/-- A load of the codes back from the ring. -/
theorem rdV_apply (i : grid0.Coords) (q : FVec Ideal S1408x640 .fp8e4m3) (L : List (RPiece Ideal)) (hL : ∀ p ∈ L, PieceOK q p)
    (hb : ∀ p ∈ baseL i q 5 (by decide), p ∈ L) (k : Nat) (hk : k < 5) (x : Fin 1408) (l : Fin 128) :
    rdV i L k 32 hk (by decide) (ix5 0 0 0 x l) = qn q x.val (128 * k + l.val) := by
  unfold rdV View.readCov
  refine (View.read_writes_apply_of_pieces _ _ (ringG q) L (fun p hp x => hL p hp x) _ ?_).trans ?_
  · refine ⟨_, hb _ (baseL_cover i q k 5 (by decide) hk), ?_⟩
    exact (LoadRect.mem_set _).mpr fun a => ⟨_, (ix5 (n0 := 1) (n1 := 1) (n2 := 1) 0 0 0 x l a).isLt, rfl⟩
  · have := ringBox_emb (curN_lt i) (show 1 < 3 by decide) hk (show 32 + 1408 ≤ 1472 by decide) 0 0 0 x l
    refine (congrArg (ringG q) this).trans ?_
    rw [ringG_ix5, if_pos (by simp only; omega)]
    simp only [shiftV, if_pos, Nat.add_sub_cancel_left]

theorem ringL_ok (i : grid0.Coords) (q : FVec Ideal S1408x640 .fp8e4m3) : (n : Nat) → (hn : n ≤ 5) → ∀ p ∈ ringL i q n hn, PieceOK q p
  | 0, _ => baseL_ok i q 5 _
  | n + 1, hn => by
    have ih := ringL_ok i q n (Nat.le_of_succ_le hn)
    have hb : ∀ p ∈ baseL i q 5 (by decide), p ∈ ringL i q n (Nat.le_of_succ_le hn) := fun p hp => ringL_base i q p hp n _
    intro p hp
    simp only [ringL, List.mem_cons] at hp
    rcases hp with rfl | rfl | hp
    · intro x
      obtain ⟨a, b, e, x, l, rfl⟩ : ∃ (a b e : Fin 1) (y : Fin 1408) (l : Fin 128), x = ix5 a b e y l := ⟨_, _, _, _, _, eq_ix5 _⟩
      rw [ringBox_emb (curN_lt i) (by decide) hn (by decide) a b e x l, ringG_ix5, if_pos (by simp only; omega)]
      refine (rightV_apply _ _ a b e x l).trans ?_
      simp only [shiftV, Nat.add_sub_cancel_left]
      rw [if_neg (by decide), if_neg (by decide)]
      split
      · rfl
      · exact rdV_apply i q _ ih hb n hn _ l
    · intro x
      obtain ⟨a, b, e, x, l, rfl⟩ : ∃ (a b e : Fin 1) (y : Fin 1408) (l : Fin 128), x = ix5 a b e y l := ⟨_, _, _, _, _, eq_ix5 _⟩
      rw [ringBox_emb (curN_lt i) (by decide) hn (by decide) a b e x l, ringG_ix5, if_pos (by simp only; omega)]
      refine (leftV_apply _ _ a b e x l).trans ?_
      simp only [shiftV, Nat.add_sub_cancel_left]
      rw [if_neg (by decide), if_pos trivial]
      split
      · rfl
      · exact rdV_apply i q _ ih hb n hn _ l
    · exact ih p hp

theorem ringL_cover (i : grid0.Coords) (q : FVec Ideal S1408x640 .fp8e4m3) (dx : Fin 3) (k : Nat) (x : Fin 1408) (l : Fin 128) :
    (n : Nat) → (hn : n ≤ 5) → (hk : k < n) → ∃ p ∈ ringL i q n hn, ix5 ⟨curN i, curN_lt i⟩ dx ⟨k, by omega⟩ ⟨32 + x.val, by omega⟩ l ∈ p.1.set
  | 0, _, h => by omega
  | n + 1, hn, h => by
    have mem : ∀ (s dx k : Nat) (hs : s < 3) (hdx : dx < 3) (hk : k < 5), ix5 ⟨s, hs⟩ ⟨dx, hdx⟩ ⟨k, hk⟩ ⟨32 + x.val, by omega⟩ l ∈ (ringBox 1408 s dx k 32 hs hdx hk (by decide)).set := by
      intro s dx k hs hdx hk
      rw [← ringBox_emb hs hdx hk (by decide) 0 0 0 x l]
      exact (LoadRect.mem_set _).mpr fun a => ⟨_, (ix5 (n0 := 1) (n1 := 1) (n2 := 1) 0 0 0 x l a).isLt, rfl⟩
    by_cases hk : k < n
    · obtain ⟨p, hp, hm⟩ := ringL_cover i q dx k x l n (Nat.le_of_succ_le hn) hk
      exact ⟨p, List.mem_cons_of_mem _ (List.mem_cons_of_mem _ hp), hm⟩
    · obtain rfl : k = n := by omega
      have hd : dx = 0 ∨ dx = 1 ∨ dx = 2 := by omega
      rcases hd with rfl | rfl | rfl
      · exact ⟨_, List.mem_cons_of_mem _ List.mem_cons_self, mem _ 0 _ _ _ _⟩
      · exact ⟨_, ringL_base i q _ (baseL_cover i q k 5 (by decide) (by omega)) _ _, mem _ 1 _ _ _ _⟩
      · exact ⟨_, List.mem_cons_self, mem _ 2 _ _ _ _⟩

theorem baseL_slot (i : grid0.Coords) (q : FVec Ideal S1408x640 .fp8e4m3) : (n : Nat) → (hn : n ≤ 5) → ∀ p ∈ baseL i q n hn, p.1.off 0 = curN i ∧ p.1.stride 0 = 1 ∧ p.1.size 0 = 1
  | 0, _ => by intro p hp; cases hp
  | n + 1, hn => by
    intro p hp
    simp only [baseL, List.mem_cons] at hp
    rcases hp with rfl | rfl | rfl | hp
    iterate 3 exact ⟨rfl, rfl, rfl⟩
    exact baseL_slot i q n _ p hp

theorem ringL_slot (i : grid0.Coords) (q : FVec Ideal S1408x640 .fp8e4m3) : (n : Nat) → (hn : n ≤ 5) → ∀ p ∈ ringL i q n hn, p.1.off 0 = curN i ∧ p.1.stride 0 = 1 ∧ p.1.size 0 = 1
  | 0, _ => baseL_slot i q 5 _
  | n + 1, hn => by
    intro p hp
    simp only [ringL, List.mem_cons] at hp
    rcases hp with rfl | rfl | hp
    iterate 2 exact ⟨rfl, rfl, rfl⟩
    exact ringL_slot i q n _ p hp

/-- What the ring's contents must be for slot `s` to hold the block whose codes are `q`. -/
def RingHolds (C : Vec Ideal S3x3x5x1472x128 .fp8e4m3) (s : Nat) (q : Nat → Nat → EReal) : Prop :=
  ∀ (hs : s < 3) (dx : Fin 3) (k : Fin 5) (x : Fin 1408) (l : Fin 128),
    C (ix5 ⟨s, hs⟩ dx k ⟨32 + x.val, by omega⟩ l) = shiftV q dx.val x.val (128 * k.val + l.val)

theorem ring_new (i : grid0.Coords) (q : FVec Ideal S1408x640 .fp8e4m3) {c : Dev nD} (f : Buf (Elt Ideal) (ringM.view.loc (c : Thread nD τ))) :
    RingHolds (ringM.view.read (Elt Ideal) (ringM.view.writes (Elt Ideal) f (ringL i q 5 (by decide)))) (curN i) (qn q) := by
  intro hs dx k x l
  refine (View.read_writes_apply_of_pieces _ _ (ringG q) _ (fun p hp x => ringL_ok i q 5 _ p hp x) _ (ringL_cover i q dx k.val x l 5 (by decide) k.isLt)).trans ?_
  rw [ringG_ix5, if_pos (by simp only; omega)]
  simp only [Nat.add_sub_cancel_left]

theorem ring_old (i : grid0.Coords) (q : FVec Ideal S1408x640 .fp8e4m3) {c : Dev nD} (f : Buf (Elt Ideal) (ringM.view.loc (c : Thread nD τ)))
    (s : Nat) (hs : s ≠ curN i) (q' : Nat → Nat → EReal) (h : RingHolds (ringM.view.read (Elt Ideal) f) s q') :
    RingHolds (ringM.view.read (Elt Ideal) (ringM.view.writes (Elt Ideal) f (ringL i q 5 (by decide)))) s q' := by
  intro hs' dx k x l
  rw [View.read_writes_apply_of_forall_not_mem, h hs' dx k x l]
  intro p hp
  obtain ⟨ho, hst, hsz⟩ := ringL_slot i q 5 _ p hp
  refine Rect.not_mem_set_of_axis _ _ 0 _ _ ho hst hsz ?_
  simp only [ix5_0]; omega

/-- A block's narrow products at natural coordinates: row `x`'s codes against column `m` of the packed matrix. -/
def zn (q : Nat → Nat → EReal) (dn : FVec Ideal S640x256 .bf16) (x m : Nat) : EReal :=
  if h : m < 256 then ∑ ch : Fin 640, q x ch.val * dn (ix2 ch ⟨m, h⟩) else 0

theorem zV_apply (q : FVec Ideal S1408x640 .fp8e4m3) (dn : FVec Ideal S640x256 .bf16) (x : Fin 1408) (m : Fin 256) :
    zV q dn (ix2 x m) = zn (qn q) dn x.val m.val := by
  pointwise [zV]
  unfold zn
  rw [dif_pos m.isLt]
  refine Finset.sum_congr rfl fun ch _ => ?_
  rw [qn, dif_pos ⟨x.isLt, ch.isLt⟩]

def lowG (q : FVec Ideal S1408x640 .fp8e4m3) (dn : FVec Ideal S640x256 .bf16) (y : S3x2x1424x128.Idx) : EReal :=
  zn (qn q) dn ((y 2).val - 8) (128 * (y 1).val + (y 3).val)

theorem lowBox_emb {s t : Nat} (hs : s < 3) (ht : t < 2) (a b : Fin 1) (x : Fin 1408) (l : Fin 128) :
    (Rect.unit (s := S3x2x1424x128) ![s, t, 8, 0] S1x1x1408x128.size (low_inb' hs ht)).emb (ix4 a b x l) = ix4 ⟨s, hs⟩ ⟨t, ht⟩ ⟨8 + x.val, by omega⟩ l := by
  have ha := a.isLt; have hb := b.isLt
  refine Rect.emb_eq_of_coords _ _ _ fun a' => ?_
  fin_cases a'
  · show s = s + 1 * a.val; omega
  · show t = t + 1 * b.val; omega
  · show 8 + x.val = 8 + 1 * x.val; omega
  · show l.val = 0 + 1 * l.val; omega

theorem lowG_ix4 (q : FVec Ideal S1408x640 .fp8e4m3) (dn : FVec Ideal S640x256 .bf16) (s : Fin 3) (t : Fin 2) (row : Fin 1424) (l : Fin 128) :
    lowG q dn (ix4 s t row l) = zn (qn q) dn (row.val - 8) (128 * t.val + l.val) := rfl

theorem lowL_ok (i : grid0.Coords) (q : FVec Ideal S1408x640 .fp8e4m3) (dn : FVec Ideal S640x256 .bf16) :
    ∀ p ∈ lowL i q dn, ∀ x : p.1.shape.Idx, p.2 x = lowG q dn (p.1.emb x) := by
  intro p hp
  simp only [lowL, List.mem_cons, List.not_mem_nil, or_false] at hp
  rcases hp with rfl | rfl
  · intro x
    obtain ⟨a, b, x, l, rfl⟩ : ∃ (a b : Fin 1) (y : Fin 1408) (l : Fin 128), x = ix4 a b y l := ⟨_, _, _, _, eq_ix4 _⟩
    rw [lowBox_emb (curN_lt i) (by decide) a b x l, lowG_ix4]
    simp only [Nat.add_sub_cancel_left]
    refine Eq.trans (b := zV q dn (ix2 x ⟨128 + l.val, by omega⟩)) ?_ (zV_apply _ _ _ _)
    generalize zV q dn = z
    pointwise
  · intro x
    obtain ⟨a, b, x, l, rfl⟩ : ∃ (a b : Fin 1) (y : Fin 1408) (l : Fin 128), x = ix4 a b y l := ⟨_, _, _, _, eq_ix4 _⟩
    rw [lowBox_emb (curN_lt i) (by decide) a b x l, lowG_ix4]
    simp only [Nat.add_sub_cancel_left]
    refine Eq.trans (b := zV q dn (ix2 x ⟨l.val, by omega⟩)) ?_ ((zV_apply _ _ _ _).trans ?_)
    · generalize zV q dn = z
      pointwise
    · simp only [Nat.mul_zero, Nat.zero_add]

/-- What the low ring's contents must be for slot `s` to hold the products `z`. -/
def LowHolds (Z : Vec Ideal S3x2x1424x128 .f32) (s : Nat) (z : Nat → Nat → EReal) : Prop :=
  ∀ (hs : s < 3) (t : Fin 2) (x : Fin 1408) (l : Fin 128), Z (ix4 ⟨s, hs⟩ t ⟨8 + x.val, by omega⟩ l) = z x.val (128 * t.val + l.val)

theorem low_new (i : grid0.Coords) (q : FVec Ideal S1408x640 .fp8e4m3) (dn : FVec Ideal S640x256 .bf16) {c : Dev nD} (f : Buf (Elt Ideal) (lowM.view.loc (c : Thread nD τ))) :
    LowHolds (lowM.view.read (Elt Ideal) (lowM.view.writes (Elt Ideal) f (lowL i q dn))) (curN i) (zn (qn q) dn) := by
  intro hs t x l
  refine (View.read_writes_apply_of_pieces _ _ (lowG q dn) _ (lowL_ok i q dn) _ ?_).trans ?_
  · have mem : ∀ (t : Nat) (ht : t < 2), ix4 ⟨curN i, hs⟩ ⟨t, ht⟩ ⟨8 + x.val, by omega⟩ l ∈ (Rect.unit (s := S3x2x1424x128) ![curN i, t, 8, 0] S1x1x1408x128.size (low_inb' (curN_lt i) ht)).set := by
      intro t ht
      rw [← lowBox_emb hs ht 0 0 x l]
      exact (LoadRect.mem_set _).mpr fun a => ⟨_, (ix4 (n0 := 1) (n1 := 1) 0 0 x l a).isLt, rfl⟩
    have hd : t = 0 ∨ t = 1 := by omega
    rcases hd with rfl | rfl
    · exact ⟨_, List.mem_cons_of_mem _ List.mem_cons_self, mem 0 (by decide)⟩
    · exact ⟨_, List.mem_cons_self, mem 1 (by decide)⟩
  · rw [lowG_ix4]
    simp only [Nat.add_sub_cancel_left]

theorem low_old (i : grid0.Coords) (q : FVec Ideal S1408x640 .fp8e4m3) (dn : FVec Ideal S640x256 .bf16) {c : Dev nD} (f : Buf (Elt Ideal) (lowM.view.loc (c : Thread nD τ)))
    (s : Nat) (hs : s ≠ curN i) (z : Nat → Nat → EReal) (h : LowHolds (lowM.view.read (Elt Ideal) f) s z) :
    LowHolds (lowM.view.read (Elt Ideal) (lowM.view.writes (Elt Ideal) f (lowL i q dn))) s z := by
  intro hs' t x l
  rw [View.read_writes_apply_of_forall_not_mem, h hs' t x l]
  intro p hp
  simp only [lowL, List.mem_cons, List.not_mem_nil, or_false] at hp
  rcases hp with rfl | rfl <;> refine Rect.not_mem_set_of_axis _ _ 0 (curN i) 1 rfl rfl rfl ?_ <;> simp only [ix4_0] <;> omega

end Cert.KernelIdeal.Hand

end
-- ==== Proof.KernelIdeal.RowVal.lean ====
/-
  The second phase's operands as functions of the codes of the whole image batch: the left operand of the convolution, and the
  narrow products of one row.
-/
module

public import proofs.«01_k».proof.Proof.KernelIdeal.Pieces
public import proofs.«01_k».proof.Proof.KernelIdeal.RingVal

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Cert.Spec

theorem shiftV_congr (q q' : Nat → Nat → EReal) (h : ∀ x ch, x < 1408 → ch < 640 → q x ch = q' x ch) (dx x ch : Nat) (hx : x < 1408) (hch : ch < 640) :
    shiftV q dx x ch = shiftV q' dx x ch := by
  unfold shiftV
  split
  · exact h _ _ hx hch
  split
  · split
    · rfl
    · exact h _ _ (by omega) hch
  · split
    · rfl
    · exact h _ _ (by omega) hch

theorem RingHolds.congr {C : Vec Ideal S3x3x5x1472x128 .fp8e4m3} {s : Nat} {q q' : Nat → Nat → EReal} (h : RingHolds C s q)
    (hq : ∀ x ch, x < 1408 → ch < 640 → q x ch = q' x ch) : RingHolds C s q' := by
  intro hs dx k x l
  rw [h hs dx k x l]
  exact shiftV_congr _ _ hq _ _ _ x.isLt (by omega)

theorem LowHolds.congr {C : Vec Ideal S3x2x1424x128 .f32} {s : Nat} {q q' : Nat → Nat → EReal} (h : LowHolds C s q)
    (hq : ∀ x m, x < 1408 → m < 256 → q x m = q' x m) : LowHolds C s q' := by
  intro hs t x l
  rw [h hs t x l]
  exact hq _ _ x.isLt (by omega)

/-- The block whose results step `i` computes. -/
def blkN (i : grid0.Coords) : Nat := (i 0).val - 1

theorem topB_eq : ∀ i : grid0.Coords, k0_cond2 i = 1#1 → topB i = if blkN i % 32 = 0 then 0#1 else 1#1 := by decide +kernel
theorem botB_eq : ∀ i : grid0.Coords, k0_cond2 i = 1#1 → botB i = if blkN i % 32 = 31 then 0#1 else 1#1 := by decide +kernel

/-- The rings hold block `blkN i`, and its neighbours inside the image. -/
structure Held (i : grid0.Coords) (C : Vec Ideal S3x3x5x1472x128 .fp8e4m3) (cd : Nat → Nat → EReal) : Prop where
  here : RingHolds C (hereN i) (fun x ch => cd (1408 * blkN i + x) ch)
  prv : blkN i % 32 ≠ 0 → RingHolds C (prvN i) (fun x ch => cd (1408 * (blkN i - 1) + x) ch)
  nxt : blkN i % 32 ≠ 31 → RingHolds C (nxtN i) (fun x ch => cd (1408 * (blkN i + 1) + x) ch)

structure HeldLow (i : grid0.Coords) (Z : Vec Ideal S3x2x1424x128 .f32) (zg : Nat → Nat → EReal) : Prop where
  here : LowHolds Z (hereN i) (fun x ch => zg (1408 * blkN i + x) ch)
  prv : blkN i % 32 ≠ 0 → LowHolds Z (prvN i) (fun x ch => zg (1408 * (blkN i - 1) + x) ch)
  nxt : blkN i % 32 ≠ 31 → LowHolds Z (nxtN i) (fun x ch => zg (1408 * (blkN i + 1) + x) ch)

variable (i : grid0.Coords) (h : k0_cond2 i = 1#1) {c : Dev nD}

/-- A load of one row from the ring. -/
theorem ring_row_load (f : Buf (Elt Ideal) (ringM.view.loc (c : Thread nD τ))) (s dx k r : Nat) (hs : s < 3) (hdx : dx < 3) (hk : k < 5) (hr : r ≤ 7)
    (q : Nat → Nat → EReal) (hC : RingHolds (ringM.view.read (Elt Ideal) f) s q) (w : Fin 176) (l : Fin 128) :
    shapeCast S176x128 (View.readAt (Elt Ideal) ringM.view
      (Rect.unit (s := S3x3x5x1472x128) ![s, dx, k, 32 + r * 176, 0] S1x1x1x176x128.size (ring_inb hs hdx hk (by omega))).toLoadRect f)
      shapeCasts_S1x1x1x176x128_S176x128 (ix2 w l) = shiftV q dx (r * 176 + w.val) (128 * k + l.val) := by
  have hG : ∀ g : Vec Ideal S1x1x1x176x128 .fp8e4m3, shapeCast S176x128 g shapeCasts_S1x1x1x176x128_S176x128 (ix2 w l) = g (ix5 0 0 0 w l) := by
    intro g; pointwise
  refine (hG _).trans ?_
  refine Eq.trans ?_ (hC hs ⟨dx, hdx⟩ ⟨k, hk⟩ ⟨r * 176 + w.val, by omega⟩ l)
  refine congrArg (ringM.view.read (Elt Ideal) f) (Rect.emb_eq_of_coords (Rect.unit (s := S3x3x5x1472x128) ![s, dx, k, 32 + r * 176, 0] S1x1x1x176x128.size (ring_inb hs hdx hk (by omega))) (ix5 0 0 0 w l) _ fun a' => ?_)
  fin_cases a'
  · show s = s + 1 * 0; omega
  · show dx = dx + 1 * 0; omega
  · show k = k + 1 * 0; omega
  · show 32 + (r * 176 + w.val) = (32 + r * 176) + 1 * w.val; omega
  · show l.val = 0 + 1 * l.val; omega

theorem ringRow_apply (f : Buf (Elt Ideal) (ringM.view.loc (c : Thread nD τ))) (cd : Nat → Nat → EReal) (H : Held i (ringM.view.read (Elt Ideal) f) cd)
    (dx k r rr dy : Nat) (hdx : dx < 3) (hk : k < 5) (hr : r < 10) (hrr : rr < 8) (hdy : dy < 3) (e : r = rr + dy) (w : Fin 176) (l : Fin 128) :
    ringRow i h f dx k r hdx hk hr (ix2 w l) = tap cd (1408 * blkN i + 176 * rr + w.val) dy dx (128 * k + l.val) := by
  have hw := w.isLt
  by_cases h0 : r = 0
  · subst h0
    obtain ⟨rfl, rfl⟩ : rr = 0 ∧ dy = 0 := by omega
    simp only [ringRow, if_true, topB_eq i h]
    by_cases ht : blkN i % 32 = 0
    · rw [if_pos ht, sel_zero, tap, if_pos ⟨rfl, by omega⟩]
      exact ofBits_f8
    · rw [if_neg ht, sel_one, tap, if_neg (by omega), if_neg (by omega)]
      refine (ring_row_load f _ dx k _ (prv_lt i h) hdx hk (by decide) _ (H.prv ht) w l).trans ?_
      rw [shiftV_add]
      congr 1
      simp only [rowN, if_true]
      omega
  by_cases h9 : r = 9
  · subst h9
    obtain ⟨rfl, rfl⟩ : rr = 7 ∧ dy = 2 := by omega
    simp only [ringRow, if_true, botB_eq i h]
    rw [if_neg (by decide)]
    by_cases ht : blkN i % 32 = 31
    · rw [if_pos ht, sel_zero, tap, if_neg (by omega), if_pos ⟨rfl, by omega⟩]
      exact ofBits_f8
    · rw [if_neg ht, sel_one, tap, if_neg (by omega), if_neg (by omega)]
      refine (ring_row_load f _ dx k _ (nxt_lt i h) hdx hk (by decide) _ (H.nxt ht) w l).trans ?_
      rw [shiftV_add]
      congr 1
      rw [show rowN 9 = 0 from rfl]
      omega
  · simp only [ringRow, if_neg h0, if_neg h9]
    rw [tap, if_neg (by omega), if_neg (by omega)]
    have hrow : rowN r = r - 1 := by rw [rowN, if_neg h0, if_neg h9]
    have hslot : slotN i r = hereN i := by rw [slotN, if_neg h0, if_neg h9]
    refine (ring_row_load f (slotN i r) dx k _ (slot_lt i h r) hdx hk (row_le r hr) _ (hslot ▸ H.here) w l).trans ?_
    rw [shiftV_add]
    congr 1
    rw [hrow]
    omega

theorem colPiece_apply (f : Buf (Elt Ideal) (ringM.view.loc (c : Thread nD τ))) (cd : Nat → Nat → EReal) (H : Held i (ringM.view.read (Elt Ideal) f) cd)
    (j : Nat) (hj : j < 4) (t : Fin 45) (x : Fin 352) (l : Fin 128) :
    colPiece i h f j hj t (ix2 x l) = tap cd (1408 * blkN i + 352 * j + x.val) (t.val / 15) (t.val / 5 % 3) (128 * (t.val % 5) + l.val) := by
  have ht := t.isLt
  have hx := x.isLt
  have hA := fun w => ringRow_apply i h f cd H (t.val / 5 % 3) (t.val % 5) (2 * j + t.val / 15) (2 * j) (t.val / 15) (Nat.mod_lt _ (by decide)) (Nat.mod_lt _ (by decide)) (by omega) (by omega) (by omega) rfl w l
  have hB := fun w => ringRow_apply i h f cd H (t.val / 5 % 3) (t.val % 5) (2 * j + 1 + t.val / 15) (2 * j + 1) (t.val / 15) (Nat.mod_lt _ (by decide)) (Nat.mod_lt _ (by decide)) (by omega) (by omega) (by omega) rfl w l
  unfold colPiece
  revert hA hB
  generalize ringRow i h f (t.val / 5 % 3) (t.val % 5) (2 * j + t.val / 15) _ _ _ = A
  generalize ringRow i h f (t.val / 5 % 3) (t.val % 5) (2 * j + 1 + t.val / 15) _ _ _ = B
  intro hA hB
  pointwise
  split
  · rw [hA]; congr 1; simp only; omega
  · rw [hB]; congr 1; simp only; omega

theorem lhsP_apply (f : Buf (Elt Ideal) (ringM.view.loc (c : Thread nD τ))) (cd : Nat → Nat → EReal) (H : Held i (ringM.view.read (Elt Ideal) f) cd)
    (j : Nat) (hj : j < 4) (x : Fin 352) (m : Fin 5760) :
    lhsP i h f j hj (ix2 x m) = tap cd (1408 * blkN i + 352 * j + x.val) (m.val / 1920) (m.val / 640 % 3) (m.val % 640) := by
  have hm := m.isLt
  unfold lhsP
  refine (Idealize.ShloMosaic.concatenate_ofFn_apply (t := S352x5760) (s₁ := S352x128) (1 : Fin 2) (fun t => colPiece i h f j hj t) (lhs_concatenates _) rfl 128 rfl (ix2 x m) ⟨m.val / 128, by omega⟩ rfl
    (ix2 x ⟨m.val % 128, by omega⟩) rfl ?_).trans ?_
  · intro b hb
    fin_cases b
    · rfl
    · exact absurd rfl hb
  · rw [colPiece_apply i h f cd H]
    simp only [Nat.div_div_eq_div_mul]
    congr 1 <;> omega

/-- A load of one row from the low ring, its first and last pixels masked where the shift leaves the row. -/
theorem low_row_load (f : Buf (Elt Ideal) (lowM.view.loc (c : Thread nD τ))) (s t dx r : Nat) (hs : s < 3) (ht : t < 2) (hdx : dx < 3) (hr : r ≤ 7)
    (z : Nat → Nat → EReal) (hZ : LowHolds (lowM.view.read (Elt Ideal) f) s z) (w : Fin 176) (l : Fin 128)
    (hw0 : dx = 0 → w.val ≠ 0) (hw2 : dx = 2 → w.val ≠ 175) :
    shapeCast S176x128 (View.readAt (Elt Ideal) lowM.view
      (Rect.unit (s := S3x2x1424x128) ![s, t, 7 + dx + r * 176, 0] S1x1x176x128.size (low_inb hs ht (by omega))).toLoadRect f)
      shapeCasts_S1x1x176x128_S176x128 (ix2 w l) = shiftV z dx (r * 176 + w.val) (128 * t + l.val) := by
  have hw := w.isLt
  have hG : ∀ g : Vec Ideal S1x1x176x128 .f32, shapeCast S176x128 g shapeCasts_S1x1x176x128_S176x128 (ix2 w l) = g (ix4 0 0 w l) := by
    intro g; pointwise
  refine (hG _).trans ?_
  have e : shiftV z dx (r * 176 + w.val) (128 * t + l.val) = z (r * 176 + w.val + dx - 1) (128 * t + l.val) := by
    have hd : dx = 0 ∨ dx = 1 ∨ dx = 2 := by omega
    rcases hd with rfl | rfl | rfl
    · rw [shiftV, if_neg (by decide), if_pos rfl, if_neg (by have := hw0 rfl; omega), Nat.add_zero]
    · rw [shiftV, if_pos rfl]; rfl
    · rw [shiftV, if_neg (by decide), if_neg (by decide), if_neg (by have := hw2 rfl; omega)]; rfl
  rw [e]
  refine Eq.trans ?_ (hZ hs ⟨t, ht⟩ ⟨r * 176 + w.val + dx - 1, by omega⟩ l)
  refine congrArg (lowM.view.read (Elt Ideal) f) (Rect.emb_eq_of_coords (Rect.unit (s := S3x2x1424x128) ![s, t, 7 + dx + r * 176, 0] S1x1x176x128.size (low_inb hs ht (by omega))) (ix4 0 0 w l) _ fun a' => ?_)
  fin_cases a'
  · show s = s + 1 * 0; omega
  · show t = t + 1 * 0; omega
  · show 8 + (r * 176 + w.val + dx - 1) = (7 + dx + r * 176) + 1 * w.val
    have := hw0; omega
  · show l.val = 0 + 1 * l.val; omega

theorem tap_mask (z : Nat → Nat → EReal) (R dy dx m : Nat) (hR : R % 176 = 0 ∧ dx = 0 ∨ R % 176 = 175 ∧ dx = 2) (hp : dy = 0 → 176 ≤ R ∨ R / 176 % 256 = 0) : tap z R dy dx m = 0 := by
  unfold tap
  split
  · rfl
  split
  · rfl
  unfold shiftV
  rcases hR with ⟨h1, rfl⟩ | ⟨h1, rfl⟩
  · rw [if_neg (by decide), if_pos rfl, if_pos]; omega
  · rw [if_neg (by decide), if_neg (by decide), if_pos]; omega

theorem iota_eq0 (w : Fin 176) (l : Fin 128) : cmpi .eq (iota .tc S176x128 32 [0] iota_S176x128_d0_w32) (broadcast S176x128 0#32) (ix2 w l) = if w.val = 0 then 1#1 else 0#1 := by
  pointwise
  revert w; decide +kernel

theorem iota_eq175 (w : Fin 176) (l : Fin 128) : cmpi .eq (iota .tc S176x128 32 [0] iota_S176x128_d0_w32) (broadcast S176x128 175#32) (ix2 w l) = if w.val = 175 then 1#1 else 0#1 := by
  pointwise
  revert w; decide +kernel

theorem iota_lt20 (w : Fin 176) (l : Fin 128) : cmpi .slt (iota .tc S176x128 32 [1] iota_S176x128_d1_w32) (broadcast S176x128 20#32) (ix2 w l) = if l.val < 20 then 1#1 else 0#1 := by
  pointwise
  revert l; decide +kernel

theorem select_at {α : Type} {s : Shape} (m : IVec s 1) (a b : s.Idx → α) (j : s.Idx) : select m a b j = Scalar.select (m j) (a j) (b j) := rfl

theorem ofBits_f32 : Ideal.ofBits .f32 0#32 = 0 := Ideal.ofBits_zero _

/-- One row of the low ring before the edge masks. -/
def zRow0 (f : Buf (Elt Ideal) (lowM.view.loc (c : Thread nD τ))) (t dx r : Nat) (ht : t < 2) (hdx : dx < 3) (hr : r < 10) : FVec Ideal S176x128 .f32 :=
  let v : FVec Ideal S176x128 .f32 := shapeCast S176x128 (View.readAt (Elt Ideal) lowM.view
    (Rect.unit (s := S3x2x1424x128) ![slotN i r, t, 7 + dx + rowN r * 176, 0] S1x1x176x128.size (low_inb (slot_lt i h r) ht (by have := row_le r hr; omega))).toLoadRect f)
    shapeCasts_S1x1x176x128_S176x128
  if r = 0 then Scalar.select (topB i) v (broadcast S176x128 (Scalar.ofBits .f32 0x00000000#32))
    else if r = 9 then Scalar.select (botB i) v (broadcast S176x128 (Scalar.ofBits .f32 0x00000000#32))
    else v

theorem zRow0_apply (f : Buf (Elt Ideal) (lowM.view.loc (c : Thread nD τ))) (zg : Nat → Nat → EReal) (H : HeldLow i (lowM.view.read (Elt Ideal) f) zg)
    (t dx r rr dy : Nat) (ht : t < 2) (hdx : dx < 3) (hr : r < 10) (hrr : rr < 8) (hdy : dy < 3) (e : r = rr + dy) (w : Fin 176) (l : Fin 128)
    (hw0 : dx = 0 → w.val ≠ 0) (hw2 : dx = 2 → w.val ≠ 175) :
    zRow0 i h f t dx r ht hdx hr (ix2 w l) = tap zg (1408 * blkN i + 176 * rr + w.val) dy dx (128 * t + l.val) := by
  have hw := w.isLt
  by_cases h0 : r = 0
  · subst h0
    obtain ⟨rfl, rfl⟩ : rr = 0 ∧ dy = 0 := by omega
    simp only [zRow0, if_true, topB_eq i h]
    by_cases htt : blkN i % 32 = 0
    · rw [if_pos htt, sel_zero, tap, if_pos ⟨rfl, by omega⟩]
      exact ofBits_f32
    · rw [if_neg htt, sel_one, tap, if_neg (by omega), if_neg (by omega)]
      refine (low_row_load f _ t dx _ (prv_lt i h) ht hdx (by decide) _ (H.prv htt) w l hw0 hw2).trans ?_
      rw [shiftV_add]
      congr 1
      rw [show rowN 0 = 7 from rfl]
      omega
  by_cases h9 : r = 9
  · subst h9
    obtain ⟨rfl, rfl⟩ : rr = 7 ∧ dy = 2 := by omega
    simp only [zRow0, if_true, botB_eq i h]
    rw [if_neg (by decide)]
    by_cases htt : blkN i % 32 = 31
    · rw [if_pos htt, sel_zero, tap, if_neg (by omega), if_pos ⟨rfl, by omega⟩]
      exact ofBits_f32
    · rw [if_neg htt, sel_one, tap, if_neg (by omega), if_neg (by omega)]
      refine (low_row_load f _ t dx _ (nxt_lt i h) ht hdx (by decide) _ (H.nxt htt) w l hw0 hw2).trans ?_
      rw [shiftV_add]
      congr 1
      rw [show rowN 9 = 0 from rfl]
      omega
  · simp only [zRow0, if_neg h0, if_neg h9]
    rw [tap, if_neg (by omega), if_neg (by omega)]
    have hrow : rowN r = r - 1 := by rw [rowN, if_neg h0, if_neg h9]
    have hslot : slotN i r = hereN i := by rw [slotN, if_neg h0, if_neg h9]
    refine (low_row_load f (slotN i r) t dx _ (slot_lt i h r) ht hdx (row_le r hr) _ (hslot ▸ H.here) w l hw0 hw2).trans ?_
    rw [shiftV_add]
    congr 1
    rw [hrow]
    omega

theorem zRow_apply (f : Buf (Elt Ideal) (lowM.view.loc (c : Thread nD τ))) (zg : Nat → Nat → EReal) (H : HeldLow i (lowM.view.read (Elt Ideal) f) zg)
    (t dx r rr dy : Nat) (ht : t < 2) (hdx : dx < 3) (hr : r < 10) (hrr : rr < 8) (hdy : dy < 3) (e : r = rr + dy) (w : Fin 176) (l : Fin 128) :
    zRow i h f t dx r ht hdx hr (ix2 w l) = tap zg (1408 * blkN i + 176 * rr + w.val) dy dx (128 * t + l.val) := by
  have hw := w.isLt
  have key := zRow0_apply i h f zg H t dx r rr dy ht hdx hr hrr hdy e w l
  have hd : dx = 0 ∨ dx = 1 ∨ dx = 2 := by omega
  rcases hd with rfl | rfl | rfl
  · show select _ _ (zRow0 i h f t 0 r ht hdx hr) (ix2 w l) = _
    revert key
    generalize zRow0 i h f t 0 r ht hdx hr = v
    intro key
    rw [select_at, iota_eq0]
    by_cases hw0 : w.val = 0
    · rw [if_pos hw0, sel_one, tap_mask zg _ dy 0 _ (Or.inl ⟨by omega, rfl⟩) (by omega)]; exact ofBits_f32
    · rw [if_neg hw0, sel_zero]; exact key (fun _ => hw0) (by omega)
  · show zRow0 i h f t 1 r ht hdx hr (ix2 w l) = _
    exact key (by omega) (by omega)
  · show select _ _ (zRow0 i h f t 2 r ht hdx hr) (ix2 w l) = _
    revert key
    generalize zRow0 i h f t 2 r ht hdx hr = v
    intro key
    rw [select_at, iota_eq175]
    by_cases hw0 : w.val = 175
    · rw [if_pos hw0, sel_one, tap_mask zg _ dy 2 _ (Or.inr ⟨by omega, rfl⟩) (by omega)]; exact ofBits_f32
    · rw [if_neg hw0, sel_zero]; exact key (by omega) (fun _ => hw0)

end Cert.KernelIdeal.Hand

end
-- ==== Proof.KernelIdeal.YVal.lean ====
/-
  The second phase's results as the convolution's formula.
-/
module

public import proofs.«01_k».proof.Proof.KernelIdeal.RowVal

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Cert.Spec

theorem rot_apply (k : Nat) (hk : 1 ≤ k ∧ k < 6) (v : FVec Ideal S176x128 .f32) (w : Fin 176) (l : Fin 128) :
    dynamicRotate 1 (BitVec.ofNat 32 (128 - 20 * k)) none v rotates_S176x128_d1 (ix2 w l) = v (ix2 w ⟨(l.val + 20 * k) % 128, Nat.mod_lt _ (by decide)⟩) := by
  obtain ⟨h1, h2⟩ := hk
  interval_cases k <;> pointwise <;> exact congrArg v (congrArg (ix2 w) (Fin.ext (by simp only; omega)))

variable (i : grid0.Coords) (h : k0_cond2 i = 1#1) {c : Dev nD}

theorem zTap_apply (f : Buf (Elt Ideal) (lowM.view.loc (c : Thread nD τ))) (zg : Nat → Nat → EReal) (H : HeldLow i (lowM.view.read (Elt Ideal) f) zg)
    (rr tp : Nat) (hrr : rr < 8) (htp : tp < 9) (w : Fin 176) (l : Fin 128) (hl : l.val < 20) :
    zTap i h f rr tp hrr htp (ix2 w l) = tap zg (1408 * blkN i + 176 * rr + w.val) (tp / 3) (tp % 3) (128 * (tp / 6) + 20 * (tp % 6) + l.val) := by
  have key := fun l => zRow_apply i h f zg H (tp / 6) (tp % 3) (rr + tp / 3) rr (tp / 3) (by omega) (by omega) (by omega) hrr (by omega) rfl w l
  unfold zTap
  revert key
  generalize zRow i h f (tp / 6) (tp % 3) (rr + tp / 3) _ _ _ = v
  intro key
  simp only
  split
  · rename_i h0
    rw [key, h0]
    rfl
  · rename_i h0
    rw [rot_apply (tp % 6) (by omega), key]
    congr 1
    simp only
    omega

/-- A row of narrow products from its nine taps. -/
def dOf (z : (tap : Nat) → tap < 9 → FVec Ideal S176x128 .f32) (v0 : Elt Ideal .f32) : FVec Ideal S176x128 .bf16 :=
  truncf .bf16 (select (cmpi .slt (iota .tc S176x128 32 [1] iota_S176x128_d1_w32) (broadcast S176x128 20#32))
    (mulf (addf (addf (addf (addf (addf (addf (addf (addf (z 0 (by decide)) (z 1 (by decide))) (z 2 (by decide))) (z 3 (by decide)))
    (z 4 (by decide))) (z 5 (by decide))) (z 6 (by decide))) (z 7 (by decide))) (z 8 (by decide))) (broadcast S176x128 v0))
    (broadcast S176x128 (Scalar.ofBits .f32 0x00000000#32))) bitsLt_bf16_f32

theorem dOf_apply (z : (tap : Nat) → tap < 9 → FVec Ideal S176x128 .f32) (v0 : EReal) (w : Fin 176) (l : Fin 128) :
    dOf z v0 (ix2 w l) = if l.val < 20 then (∑ t : Fin 9, z t.val t.isLt (ix2 w l)) * v0 else 0 := by
  rw [sum9]
  have e : dOf z v0 (ix2 w l) = Scalar.select (cmpi .slt (iota .tc S176x128 32 [1] iota_S176x128_d1_w32) (broadcast S176x128 20#32) (ix2 w l))
    ((z 0 (by decide) (ix2 w l) + z 1 (by decide) (ix2 w l) + z 2 (by decide) (ix2 w l) + z 3 (by decide) (ix2 w l) + z 4 (by decide) (ix2 w l) +
      z 5 (by decide) (ix2 w l) + z 6 (by decide) (ix2 w l) + z 7 (by decide) (ix2 w l) + z 8 (by decide) (ix2 w l)) * v0) (Ideal.ofBits .f32 0#32) := rfl
  rw [e, iota_lt20]
  split
  · rfl
  · exact ofBits_f32

theorem dRow_apply (f : Buf (Elt Ideal) (lowM.view.loc (c : Thread nD τ))) (zg : Nat → Nat → EReal) (H : HeldLow i (lowM.view.read (Elt Ideal) f) zg)
    (v0 : EReal) (rr : Nat) (hrr : rr < 8) (w : Fin 176) (l : Fin 128) :
    dRow i h f v0 rr hrr (ix2 w l) = if l.val < 20 then (∑ t : Fin 9, tap zg (1408 * blkN i + 176 * rr + w.val) (t.val / 3) (t.val % 3) (128 * (t.val / 6) + 20 * (t.val % 6) + l.val)) * v0 else 0 := by
  refine (dOf_apply (fun (tp : Nat) (ht : tp < 9) => zTap i h f rr tp hrr ht) v0 w l).trans ?_
  split
  · rename_i hl
    congr 1
    exact Finset.sum_congr rfl fun t _ => zTap_apply i h f zg H rr t.val hrr t.isLt w l hl
  · rfl

theorem dMat_apply (f : Buf (Elt Ideal) (lowM.view.loc (c : Thread nD τ))) (zg : Nat → Nat → EReal) (H : HeldLow i (lowM.view.read (Elt Ideal) f) zg)
    (v0 : EReal) (j : Nat) (hj : j < 4) (x : Fin 352) (l : Fin 128) :
    dMat i h f v0 j hj (ix2 x l) = if l.val < 20 then (∑ t : Fin 9, tap zg (1408 * blkN i + 352 * j + x.val) (t.val / 3) (t.val % 3) (128 * (t.val / 6) + 20 * (t.val % 6) + l.val)) * v0 else 0 := by
  have hx := x.isLt
  have hA := fun w => dRow_apply i h f zg H v0 (2 * j) (by omega) w l
  have hB := fun w => dRow_apply i h f zg H v0 (2 * j + 1) (by omega) w l
  unfold dMat
  revert hA hB
  generalize dRow i h f v0 (2 * j) _ = A
  generalize dRow i h f v0 (2 * j + 1) _ = B
  intro hA hB
  have e : concatenate S352x128 0 [⟨S176x128, A⟩, ⟨S176x128, B⟩] concatenates_S176x128_S176x128_S352x128_d0 (ix2 x l) =
      if hc : x.val < 176 then A (ix2 ⟨x.val, hc⟩ l) else B (ix2 ⟨x.val - 176, by omega⟩ l) := by
    pointwise
  rw [e]
  split
  · rw [hA, show 1408 * blkN i + 176 * (2 * j) + x.val = 1408 * blkN i + 352 * j + x.val by omega]
  · rw [hB]
    simp only
    rw [show 1408 * blkN i + 176 * (2 * j + 1) + (x.val - 176) = 1408 * blkN i + 352 * j + x.val by omega]

theorem tap_zn (cd : Nat → Nat → EReal) (dn : FVec Ideal S640x256 .bf16) (R dy dx m : Nat) (hm : m < 256) :
    tap (zn cd dn) R dy dx m = ∑ ch : Fin 640, tap cd R dy dx ch.val * dn (ix2 ch ⟨m, hm⟩) := by
  rw [← tap_sum cd (fun ch => dn (ix2 ch ⟨m, hm⟩)) R dy dx m]
  unfold tap shiftV zn
  simp only [dif_pos hm]

theorem yVal_apply (v0 : EReal) (L : FVec Ideal S352x5760 .fp8e4m3) (D : FVec Ideal S352x128 .bf16) (w : FVec Ideal S5760x1280 .fp8e4m3)
    (ws b : FVec Ideal S1x1280 .f32) (u : FVec Ideal S128x1280 .bf16) (x : Fin 352) (o : Fin 1280) :
    yVal v0 L D w ws b u (ix2 x o) = (∑ m : Fin 5760, L (ix2 x m) * w (ix2 m o)) * v0 * ws (ix2 0 o) + b (ix2 0 o) +
      Ideal.ofBits .f32 0x3ECCCCCD#32 * ∑ l : Fin 128, D (ix2 x l) * u (ix2 l o) := by
  pointwise [yVal]

/-- A row pair's results, from the rings' contents. -/
theorem y_eq (f10 : Buf (Elt Ideal) (ringM.view.loc (c : Thread nD τ))) (f11 : Buf (Elt Ideal) (lowM.view.loc (c : Thread nD τ)))
    (cd : Nat → Nat → EReal) (dn : FVec Ideal S640x256 .bf16)
    (HC : Held i (ringM.view.read (Elt Ideal) f10) cd) (HZ : HeldLow i (lowM.view.read (Elt Ideal) f11) (zn cd dn))
    (v0 : EReal) (w : FVec Ideal S5760x1280 .fp8e4m3) (ws b : FVec Ideal S1x1280 .f32) (u : FVec Ideal S128x1280 .bf16)
    (j : Nat) (hj : j < 4) (x : Fin 352) (o : Fin 1280) :
    yVal v0 (lhsP i h f10 j hj) (dMat i h f11 v0 j hj) w ws b u (ix2 x o) =
      yS cd v0 (fun t ch o => w (ix2 ⟨t.val * 640 + ch.val, by omega⟩ o)) (fun o => ws (ix2 0 o)) (fun o => b (ix2 0 o))
        (fun t ch r => dn (ix2 ch ⟨128 * (t.val / 6) + 20 * (t.val % 6) + r.val, by omega⟩)) (fun r o => u (ix2 ⟨r.val, by omega⟩ o))
        (1408 * blkN i + 352 * j + x.val) o := by
  rw [yVal_apply, yS]
  have e1 : ∑ m : Fin 5760, lhsP i h f10 j hj (ix2 x m) * w (ix2 m o) =
      mainS cd (fun t ch o => w (ix2 ⟨t.val * 640 + ch.val, by omega⟩ o)) (1408 * blkN i + 352 * j + x.val) o := by
    rw [Fin.sum_univ_tiles 9 640 (by decide), mainS]
    refine Finset.sum_congr rfl fun t _ => Finset.sum_congr rfl fun ch _ => ?_
    have ht := t.isLt; have hch := ch.isLt
    rw [lhsP_apply i h f10 cd HC]
    congr 2 <;> simp only <;> omega
  have e2 : ∑ l : Fin 128, dMat i h f11 v0 j hj (ix2 x l) * u (ix2 l o) =
      ∑ r : Fin 20, lowS cd (fun t ch r => dn (ix2 ch ⟨128 * (t.val / 6) + 20 * (t.val % 6) + r.val, by omega⟩)) (1408 * blkN i + 352 * j + x.val) r * v0 * u (ix2 ⟨r.val, by omega⟩ o) := by
    rw [Fin.sum_univ_two_halves 20 108 (by decide)]
    rw [Finset.sum_eq_zero (s := (Finset.univ : Finset (Fin 108))) (fun l _ => by rw [dMat_apply i h f11 _ HZ, if_neg (by simp only; omega), zero_mul]), add_zero]
    refine Finset.sum_congr rfl fun r _ => ?_
    have hr := r.isLt
    rw [dMat_apply i h f11 _ HZ, if_pos hr]
    congr 2
    rw [lowS]
    refine Finset.sum_congr rfl fun t _ => ?_
    exact tap_zn cd dn _ _ _ _ _
  rw [e1, e2]

end Cert.KernelIdeal.Hand

end
-- ==== Proof.KernelIdeal.Step.lean ====
/-
  One step of the grid on contents: what the rings hold after the steps so far, and what a step leaves in the two results' windows,
  as functions of the whole arrays.
-/
module

public import proofs.«01_k».proof.Proof.KernelIdeal.Core
public import proofs.«01_k».proof.Proof.KernelIdeal.YVal
public import Idealize.ShloMosaic.Lib.WholeRead
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Cert.Spec

theorem coord_eq : ∀ t : Fin cfg0.N, ((grid0.coords t) 0).val = t.val := by decide +kernel
theorem cond1_iff : ∀ t : Fin cfg0.N, k0_cond1 (grid0.coords t) = 1#1 ↔ t.val < 64 := by decide +kernel
theorem cond2_iff : ∀ t : Fin cfg0.N, k0_cond2 (grid0.coords t) = 1#1 ↔ 0 < t.val := by decide +kernel
theorem hereN_eq : ∀ t : Fin cfg0.N, 0 < t.val → hereN (grid0.coords t) = (t.val - 1) % 3 := by decide +kernel
theorem nxtN_eq : ∀ t : Fin cfg0.N, 0 < t.val → nxtN (grid0.coords t) = t.val % 3 := by decide +kernel
theorem prvN_eq : ∀ t : Fin cfg0.N, 0 < t.val → prvN (grid0.coords t) = (t.val + 1) % 3 := by decide +kernel

/-- A vector at natural coordinates. -/
def cdA (inv : EReal) (AX : FVec Ideal S90112x640 .bf16) (R ch : Nat) : EReal :=
  if h : R < 90112 ∧ ch < 640 then codeS inv (AX (ix2 ⟨R, h.1⟩ ⟨ch, h.2⟩)) else 0

/-- After `n` steps the rings hold the last blocks written. -/
def Inv (cd : Nat → Nat → EReal) (dn : FVec Ideal S640x256 .bf16) (n : Nat) (C : Vec Ideal S3x3x5x1472x128 .fp8e4m3) (Z : Vec Ideal S3x2x1424x128 .f32) : Prop :=
  ∀ s, s < 64 → s < n → n ≤ s + 3 → RingHolds C (s % 3) (fun x ch => cd (1408 * s + x) ch) ∧ LowHolds Z (s % 3) (fun x ch => zn cd dn (1408 * s + x) ch)

/-- A load of a whole staged block. -/
theorem whole_load {κ : Kind} {sp : Space} {s : Shape} {e : EltTy} {M : Memref sig κ sp s e} (h : M.IsWhole) (X : s.Idx → Elt Ideal e) (off : Fin s.rank → Nat)
    (inb : ∀ a, off a + s.size a ≤ s.size a) :
    View.readAt (Elt Ideal) M.view (Rect.unit (s := s) off s.size inb).toLoadRect (h.unread X) = X := by
  funext x
  refine (h.readAt_unread X _ x).trans (congrArg X ?_)
  funext a
  have := inb a
  refine Fin.ext ?_
  show off a + 1 * (x a).val = (x a).val
  omega

theorem qV_apply (t : Fin cfg0.N) (inv : EReal) (X2 : FVec Ideal S1408x640 .bf16) (x : Fin 1408) (ch : Fin 640) :
    qV (F := Ideal) (ms1 t) (hs1 t) inv X2 (ix2 x ch) = codeS inv (X2 (ix2 x ch)) := by
  unfold qV
  rw [whole_load]
  unfold codeS
  pointwise [k0_pay3]

/-- The block of a whole array that step `t` reads. -/
def blkX (AX : FVec Ideal S90112x640 .bf16) (t : Nat) (ht : t < 64) : FVec Ideal S1408x640 .bf16 :=
  fun j => AX (ix2 ⟨1408 * t + (j 0).val, by have := (j 0).isLt; simp at this; omega⟩ (j 1))

section
variable (inv sc : EReal) (AX : FVec Ideal S90112x640 .bf16) (W : FVec Ideal S5760x1280 .fp8e4m3) (ws b : FVec Ideal S1x1280 .f32)
  (dn : FVec Ideal S640x256 .bf16) (up : FVec Ideal S128x1280 .bf16)

theorem qn_blk (t : Fin cfg0.N) (ht : t.val < 64) (X2 : FVec Ideal S1408x640 .bf16) (hX : ∀ x ch, X2 (ix2 x ch) = AX (ix2 ⟨1408 * t.val + x.val, by omega⟩ ch))
    (x ch : Nat) (hx : x < 1408) (hch : ch < 640) :
    qn (qV (F := Ideal) (ms1 t) (hs1 t) inv X2) x ch = cdA inv AX (1408 * t.val + x) ch := by
  unfold qn cdA
  rw [dif_pos ⟨hx, hch⟩, dif_pos ⟨by omega, hch⟩, qV_apply, hX]

/-- The rings after step `t` hold one block more. -/
theorem inv_step (c : Dev nD) (t : Fin cfg0.N) (X1 : Vec Ideal S1x2 .f32) (hinv : sc1 (F := Ideal) t X1 = inv) (X2 : FVec Ideal S1408x640 .bf16)
    (hX : ∀ ht : t.val < 64, ∀ x ch, X2 (ix2 x ch) = AX (ix2 ⟨1408 * t.val + x.val, by omega⟩ ch))
    (f10 : Buf (Elt Ideal) (ringM.view.loc (c : Thread nD τ))) (f11 : Buf (Elt Ideal) (lowM.view.loc (c : Thread nD τ)))
    (H : Inv (cdA inv AX) dn t.val (ringM.view.read (Elt Ideal) f10) (lowM.view.read (Elt Ideal) f11)) :
    Inv (cdA inv AX) dn (t.val + 1) (ringM.view.read (Elt Ideal) (ring1 c t X1 X2 dn f10)) (lowM.view.read (Elt Ideal) (low1 c t X1 X2 dn f11)) := by
  intro s hs hst hts
  by_cases h1 : k0_cond1 (grid0.coords t) = 1#1
  · have ht := (cond1_iff t).mp h1
    have hc : curN (grid0.coords t) = t.val % 3 := by rw [curN_eq, coord_eq]
    unfold ring1 low1
    rw [dif_pos h1, dif_pos h1, R1, run1_ring, run1_low, whole_load, hinv]
    by_cases e : s = t.val
    · subst e
      have hr := ring_new (grid0.coords t) (qV (F := Ideal) (ms1 t) (hs1 t) inv X2) f10
      have hl := low_new (grid0.coords t) (qV (F := Ideal) (ms1 t) (hs1 t) inv X2) dn f11
      rw [hc] at hr hl
      refine ⟨hr.congr fun x ch hx hch => qn_blk inv AX t ht X2 (hX ht) x ch hx hch, hl.congr fun x m hx hm => ?_⟩
      unfold zn
      rw [dif_pos hm, dif_pos hm]
      exact Finset.sum_congr rfl fun ch _ => congrArg (· * _) (qn_blk inv AX t ht X2 (hX ht) x ch.val hx ch.isLt)
    · obtain ⟨hr, hl⟩ := H s hs (by omega) (by omega)
      exact ⟨ring_old _ _ _ _ (by rw [hc]; omega) _ hr, low_old _ _ _ _ _ (by rw [hc]; omega) _ hl⟩
  · have ht : ¬ t.val < 64 := fun h => h1 ((cond1_iff t).mpr h)
    unfold ring1 low1
    rw [dif_neg h1, dif_neg h1]
    exact H s hs (by omega) (by omega)

theorem held_of_inv (t : Fin cfg0.N) (h0 : 0 < t.val) (C : Vec Ideal S3x3x5x1472x128 .fp8e4m3) (Z : Vec Ideal S3x2x1424x128 .f32) (cd : Nat → Nat → EReal)
    (H : Inv cd dn (t.val + 1) C Z) : Held (grid0.coords t) C cd ∧ HeldLow (grid0.coords t) Z (zn cd dn) := by
  have hN : t.val < 65 := t.isLt
  have hb : blkN (grid0.coords t) = t.val - 1 := by rw [blkN, coord_eq]
  have a1 := H (t.val - 1) (by omega) (by omega) (by omega)
  have a2 : (t.val - 1) % 32 ≠ 0 → _ := fun h => H (t.val - 1 - 1) (by omega) (by omega) (by omega)
  have a3 : (t.val - 1) % 32 ≠ 31 → _ := fun h => H (t.val - 1 + 1) (by omega) (by omega) (by omega)
  refine ⟨⟨?_, ?_, ?_⟩, ⟨?_, ?_, ?_⟩⟩ <;> rw [hb]
  · rw [hereN_eq t h0]; exact a1.1
  · intro h; rw [prvN_eq t h0, show (t.val + 1) % 3 = (t.val - 1 - 1) % 3 by omega]; exact (a2 h).1
  · intro h; rw [nxtN_eq t h0, show t.val % 3 = (t.val - 1 + 1) % 3 by omega]; exact (a3 h).1
  · rw [hereN_eq t h0]; exact a1.2
  · intro h; rw [prvN_eq t h0, show (t.val + 1) % 3 = (t.val - 1 - 1) % 3 by omega]; exact (a2 h).2
  · intro h; rw [nxtN_eq t h0, show t.val % 3 = (t.val - 1 + 1) % 3 by omega]; exact (a3 h).2

/-- One result as a function of the whole arrays. -/
def yA (cd : Nat → Nat → EReal) (R : Nat) (o : Fin 1280) : EReal :=
  yS cd sc (fun t ch o => W (ix2 ⟨t.val * 640 + ch.val, by omega⟩ o)) (fun o => ws (ix2 0 o)) (fun o => b (ix2 0 o))
    (fun t ch r => dn (ix2 ch ⟨128 * (t.val / 6) + 20 * (t.val % 6) + r.val, by omega⟩)) (fun r o => up (ix2 ⟨r.val, by omega⟩ o)) R o

/-- The codes' window after a step that quantises. -/
theorem codes1_apply (c : Dev nD) (t : Fin cfg0.N) (ht : t.val < 64) (X1 : Vec Ideal S1x2 .f32) (hinv : sc1 (F := Ideal) t X1 = inv) (X2 : FVec Ideal S1408x640 .bf16)
    (hX : ∀ x ch, X2 (ix2 x ch) = AX (ix2 ⟨1408 * t.val + x.val, by omega⟩ ch)) (d : Vec Ideal S1408x640 .fp8e4m3) (x : Fin 1408) (ch : Fin 640) :
    codes1 c t X1 X2 dn d (ix2 x ch) = cdA inv AX (1408 * t.val + x.val) ch.val := by
  unfold codes1
  rw [dif_pos ((cond1_iff t).mpr ht), R1, run1_codes, hinv]
  refine (View.read_writes_apply_of_pieces _ _ (fun y => qV (F := Ideal) (ms1 t) (hs1 t) inv X2 y) _ ?_ (ix2 x ch) ?_).trans ?_
  · intro p hp y
    rw [List.mem_singleton] at hp
    subst hp
    refine congrArg (qV (F := Ideal) (ms1 t) (hs1 t) inv X2) ?_
    refine (funext fun a => Fin.ext ?_)
    fin_cases a
    · show (y 0).val = 0 + 1 * (y 0).val; omega
    · show (y 1).val = 0 + 1 * (y 1).val; omega
  · refine ⟨_, List.mem_singleton.mpr rfl, ?_⟩
    refine (LoadRect.mem_set _).mpr fun a => ?_
    fin_cases a
    · exact ⟨x.val, x.isLt, by show x.val = 0 + 1 * x.val; omega⟩
    · exact ⟨ch.val, ch.isLt, by show ch.val = 0 + 1 * ch.val; omega⟩
  · rw [qV_apply, hX, cdA, dif_pos ⟨by omega, ch.isLt⟩]

theorem yPiece_apply (c : Dev nD) (t : Fin cfg0.N) (h2 : k0_cond2 (grid0.coords t) = 1#1)
    (f10 : Buf (Elt Ideal) (ringM.view.loc (c : Thread nD τ))) (f11 : Buf (Elt Ideal) (lowM.view.loc (c : Thread nD τ))) (cd : Nat → Nat → EReal)
    (HC : Held (grid0.coords t) (ringM.view.read (Elt Ideal) f10) cd) (HZ : HeldLow (grid0.coords t) (lowM.view.read (Elt Ideal) f11) (zn cd dn))
    (j : Nat) (hj : j < 4) (x : Fin 352) (o : Fin 1280) :
    yPiece c (grid0.coords t) (ms2 t) (hs2 t) (ms3 t) (hs3 t) (ms4 t) (hs4 t) (ms6 t) (hs6 t) sc h2 W ws b up f10 f11 j hj (ix2 x o)
      = yA sc W ws b dn up cd (1408 * (t.val - 1) + 352 * j + x.val) o := by
  unfold yPiece
  rw [whole_load, whole_load, whole_load, whole_load]
  have e1 : shapeCast S5760x1280 W shapeCasts_S5760x1280_S5760x1280 = W := Idealize.ShloMosaic.shapeCast_self W _
  have e2 : shapeCast S1x1280 ws shapeCasts_S1x1280_S1x1280 = ws := Idealize.ShloMosaic.shapeCast_self ws _
  have e3 : shapeCast S1x1280 b shapeCasts_S1x1280_S1x1280 = b := Idealize.ShloMosaic.shapeCast_self b _
  have e4 : shapeCast S128x1280 up shapeCasts_S128x1280_S128x1280 = up := Idealize.ShloMosaic.shapeCast_self up _
  rw [e1, e2, e3, e4]
  rw [y_eq (grid0.coords t) h2 f10 f11 cd dn HC HZ, blkN, coord_eq]
  rfl

/-- The results' window after a step that computes. -/
theorem res2_apply (c : Dev nD) (t : Fin cfg0.N) (h0 : 0 < t.val) (X1 : Vec Ideal S1x2 .f32) (hsc : sc0 (F := Ideal) t X1 = sc)
    (f10 : Buf (Elt Ideal) (ringM.view.loc (c : Thread nD τ))) (f11 : Buf (Elt Ideal) (lowM.view.loc (c : Thread nD τ))) (cd : Nat → Nat → EReal)
    (H : Inv cd dn (t.val + 1) (ringM.view.read (Elt Ideal) f10) (lowM.view.read (Elt Ideal) f11)) (d : Vec Ideal S1408x1280 .bf16) (x : Fin 1408) (o : Fin 1280) :
    res2 c t X1 W ws b up f10 f11 d (ix2 x o) = yA sc W ws b dn up cd (1408 * (t.val - 1) + x.val) o := by
  have h2 := (cond2_iff t).mpr h0
  obtain ⟨HC, HZ⟩ := held_of_inv dn t h0 _ _ cd H
  unfold res2
  rw [dif_pos h2, R2, run2_eq, hsc]
  have key : ∀ (j : Nat) (hj : j < 4) (inb) (y : S352x1280.Idx),
      yPiece c (grid0.coords t) (ms2 t) (hs2 t) (ms3 t) (hs3 t) (ms4 t) (hs4 t) (ms6 t) (hs6 t) sc h2 W ws b up f10 f11 j hj y
        = (fun z : S1408x1280.Idx => yA sc W ws b dn up cd (1408 * (t.val - 1) + (z 0).val) (z 1)) ((Rect.unit (s := S1408x1280) ![352 * j, 0] S352x1280.size inb).emb y) := by
    intro j hj inb y
    obtain ⟨a, o, rfl⟩ : ∃ a o, y = ix2 a o := ⟨y 0, y 1, eq_ix2 y⟩
    rw [yPiece_apply sc W ws b dn up c t h2 f10 f11 cd HC HZ j hj a o]
    show yA sc W ws b dn up cd _ o = yA sc W ws b dn up cd (1408 * (t.val - 1) + (352 * j + 1 * a.val)) ⟨0 + 1 * o.val, _⟩
    congr 1
    · omega
    · exact Fin.ext (by simp)
  refine (View.read_writes_apply_of_pieces (Val := Elt Ideal) (ms7 t).view _ (fun z : S1408x1280.Idx => yA sc W ws b dn up cd (1408 * (t.val - 1) + (z 0).val) (z 1)) _ ?_ (ix2 x o) ?_)
  · intro p hp y
    simp only [List.mem_cons, List.not_mem_nil, or_false] at hp
    rcases hp with rfl | rfl | rfl | rfl
    · exact key 3 _ inb_S1408x1280_S352x1280_1056_0 y
    · exact key 2 _ inb_S1408x1280_S352x1280_704_0 y
    · exact key 1 _ inb_S1408x1280_S352x1280_352_0 y
    · exact key 0 _ inb_S1408x1280_S352x1280_0_0 y
  · have hx := x.isLt
    have mem : ∀ (r : Nat) (inb), r ≤ x.val → x.val < r + 352 → ix2 x o ∈ (Rect.unit (s := S1408x1280) ![r, 0] S352x1280.size inb).set := by
      intro r inb hr hr'
      refine (LoadRect.mem_set _).mpr fun a => ?_
      fin_cases a
      · exact ⟨x.val - r, by show x.val - r < 352; omega, by show x.val = r + 1 * (x.val - r); omega⟩
      · exact ⟨o.val, o.isLt, by show o.val = 0 + 1 * o.val; omega⟩
    by_cases e3 : 1056 ≤ x.val
    · exact ⟨_, .head _, mem _ inb_S1408x1280_S352x1280_1056_0 e3 (by omega)⟩
    by_cases e2 : 704 ≤ x.val
    · exact ⟨_, .tail _ (.head _), mem _ inb_S1408x1280_S352x1280_704_0 e2 (by omega)⟩
    by_cases e1 : 352 ≤ x.val
    · exact ⟨_, .tail _ (.tail _ (.head _)), mem _ inb_S1408x1280_S352x1280_352_0 e1 (by omega)⟩
    · exact ⟨_, .tail _ (.tail _ (.tail _ (.head _))), mem _ inb_S1408x1280_S352x1280_0_0 (by omega) (by omega)⟩
end

end Cert.KernelIdeal.Hand

end
-- ==== Proof.KernelIdeal.RunVal.lean ====
/-
  The run with the two results' windows held to what the steps leave there: the rings' invariant carried from step to step, the
  codes' window at the codes of its block, the results' window (from the second step on) at the results of the block before.
-/
module

public import proofs.«01_k».proof.Proof.KernelIdeal.HFrame
public import proofs.«01_k».proof.Proof.KernelIdeal.Step
public import Idealize.ShloMosaic.Lib.Pipeline.ArrRel
public import Idealize.ShloMosaic.Lib.Pipeline.DatRel
public import Idealize.ShloMosaic.Lib.Pipeline.ValueKit

@[expose] public section

set_option maxRecDepth 16384

noncomputable section

namespace Cert.KernelIdeal.Hand.Val

open Cert.KernelIdeal Cert.KernelIdeal.Gen Cert.KernelIdeal.Hand.Frame
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

local notation "𝕄" => MT nD τ sig Unit (Elt Ideal) ℕ (UR sig nD τ) ℕ

variable (m : (ℓ : Loc nD τ sig) → Buf (Elt Ideal) ℓ) (ρ : Dev nD → PrngReg)

/-! ## The arrays that the region finds -/

def AS (c : Dev nD) : FVec Ideal S1x2 .f32 := V m c main_arg0
def AX (c : Dev nD) : FVec Ideal S90112x640 .bf16 := V m c main_v0
def AW (c : Dev nD) : FVec Ideal S5760x1280 .fp8e4m3 := V m c main_v12
def Aws (c : Dev nD) : FVec Ideal S1x1280 .f32 := V m c main_v13
def Ab (c : Dev nD) : FVec Ideal S1x1280 .f32 := V m c main_v14
def Adn (c : Dev nD) : FVec Ideal S640x256 .bf16 := V m c main_v10
def Aup (c : Dev nD) : FVec Ideal S128x1280 .bf16 := V m c main_v11
/-- The codes of all pixels. -/
def cdF (c : Dev nD) : Nat → Nat → EReal := cdA (AS m c (ix2 0 1)) (AX m c)
/-- The results at all pixels. -/
def yF (c : Dev nD) : Nat → Fin 1280 → EReal := yA (AS m c (ix2 0 0)) (AW m c) (Aws m c) (Ab m c) (Adn m c) (Aup m c) (cdF m c)

/-! ## The windows' blocks -/

theorem idx1 : ∀ t : Fin cfg0.N, win0_1.index t = ![min t.val 63, 0] := by decide +kernel
theorem idx7 : ∀ t : Fin cfg0.N, win0_7.index t = ![t.val - 1, 0] := by decide +kernel
theorem idx8 : ∀ t : Fin cfg0.N, win0_8.index t = ![min t.val 63, 0] := by decide +kernel
theorem idx0 : ∀ t : Fin cfg0.N, win0_0.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel

theorem blk1 (c : Dev nD) (t : Fin cfg0.N) (ht : t.val < 64) (x : Fin 1408) (ch : Fin 640) :
    (iblk m c 1 t : FVec Ideal S1408x640 .bf16) (ix2 x ch) = AX m c (ix2 ⟨1408 * t.val + x.val, by omega⟩ ch) := by
  have e : min t.val 63 = t.val := by omega
  have h := idx1 t
  rw [e] at h
  unfold AX
  blk_ext [iblk, h]
theorem blk0 (c : Dev nD) (t : Fin cfg0.N) : (iblk m c 0 t : FVec Ideal S1x2 .f32) = AS m c := by
  funext y; obtain ⟨a, b, rfl⟩ : ∃ a b, y = ix2 a b := ⟨y 0, y 1, eq_ix2 y⟩
  unfold AS; blk_ext [iblk, idx0 t]
theorem blk2 (c : Dev nD) (t : Fin cfg0.N) : (iblk m c 2 t : FVec Ideal S5760x1280 .fp8e4m3) = AW m c := by
  funext y; obtain ⟨a, b, rfl⟩ : ∃ a b, y = ix2 a b := ⟨y 0, y 1, eq_ix2 y⟩
  unfold AW; blk_ext [iblk, idx2 t]
theorem blk3 (c : Dev nD) (t : Fin cfg0.N) : (iblk m c 3 t : FVec Ideal S1x1280 .f32) = Aws m c := by
  funext y; obtain ⟨a, b, rfl⟩ : ∃ a b, y = ix2 a b := ⟨y 0, y 1, eq_ix2 y⟩
  unfold Aws; blk_ext [iblk, idx3 t]
theorem blk4 (c : Dev nD) (t : Fin cfg0.N) : (iblk m c 4 t : FVec Ideal S1x1280 .f32) = Ab m c := by
  funext y; obtain ⟨a, b, rfl⟩ : ∃ a b, y = ix2 a b := ⟨y 0, y 1, eq_ix2 y⟩
  unfold Ab; blk_ext [iblk, idx4 t]
theorem blk5 (c : Dev nD) (t : Fin cfg0.N) : (iblk m c 5 t : FVec Ideal S640x256 .bf16) = Adn m c := by
  funext y; obtain ⟨a, b, rfl⟩ : ∃ a b, y = ix2 a b := ⟨y 0, y 1, eq_ix2 y⟩
  unfold Adn; blk_ext [iblk, idx5 t]
theorem blk6 (c : Dev nD) (t : Fin cfg0.N) : (iblk m c 6 t : FVec Ideal S128x1280 .bf16) = Aup m c := by
  funext y; obtain ⟨a, b, rfl⟩ : ∃ a b, y = ix2 a b := ⟨y 0, y 1, eq_ix2 y⟩
  unfold Aup; blk_ext [iblk, idx6 t]

theorem sc0_eq (t : Fin cfg0.N) (X : Vec Ideal S1x2 .f32) : sc0 (F := Ideal) t X = X (ix2 0 0) := by
  unfold sc0
  refine ((hs0 t).readAt_unread X _ _).trans (congrArg X ?_)
  funext a; fin_cases a <;> rfl
theorem sc1_eq (t : Fin cfg0.N) (X : Vec Ideal S1x2 .f32) : sc1 (F := Ideal) t X = X (ix2 0 1) := by
  unfold sc1
  refine ((hs0 t).readAt_unread X _ _).trans (congrArg X ?_)
  funext a; fin_cases a <;> rfl

/-! ## The data -/

/-- What the results' window holds after step `t`: nothing is said of it after the first. -/
def P7 (c : Dev nD) (t : Fin cfg0.N) (X : FVec Ideal S1408x1280 .bf16) : Prop :=
  0 < t.val → ∀ (x : Fin 1408) (o : Fin 1280), X (ix2 x o) = yF m c (1408 * (t.val - 1) + x.val) o
/-- What the codes' window holds after step `t`. -/
def P8 (c : Dev nD) (t : Fin cfg0.N) (X : FVec Ideal S1408x640 .fp8e4m3) : Prop :=
  ∀ (x : Fin 1408) (ch : Fin 640), X (ix2 x ch) = cdF m c (1408 * min t.val 63 + x.val) ch.val

def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun X => P7 m c t X
  | ⟨8, _⟩ => fun X => P8 m c t X

/-- Before step `n` the rings hold the last blocks quantised. -/
def PhiV (c : Dev nD) (n : Nat) : sProp 𝕄 :=
  iprop((∃ (f10 : Buf (Elt Ideal) (ringM.view.loc (c : Thread nD τ))) (f11 : Buf (Elt Ideal) (lowM.view.loc (c : Thread nD τ))),
    ⌜Inv (cdF m c) (Adn m c) n (ringM.view.read (Elt Ideal) f10) (lowM.view.read (Elt Ideal) f11)⌝ ∗ pt c ringM f10 ∗ pt c lowM f11) ∗ (∃ r, prngReg c r))

def datsV (_ : Fin 1) (c : Dev nD) : Dat τ (Elt Ideal) Unit ℕ (UR sig nD τ) ℕ cfg0 c :=
  { dats m 0 c with Φ := fun t => PhiV m c t.val }

theorem vbefore0 (c : Dev nD) (t : Fin cfg0.N) (d) : (datsV m 0 c).before 0 t d = iblk m c 0 t :=
  before0_0_of m (datsV m 0 c) (A_eq m c 0) (after0_0 m c) t d
theorem vbefore1 (c : Dev nD) (t : Fin cfg0.N) (d) : (datsV m 0 c).before 1 t d = iblk m c 1 t :=
  before0_1_of m (datsV m 0 c) (A_eq m c 1) (after0_1 m c) t d
theorem vbefore2 (c : Dev nD) (t : Fin cfg0.N) (d) : (datsV m 0 c).before 2 t d = iblk m c 2 t :=
  before0_2_of m (datsV m 0 c) (A_eq m c 2) (after0_2 m c) t d
theorem vbefore3 (c : Dev nD) (t : Fin cfg0.N) (d) : (datsV m 0 c).before 3 t d = iblk m c 3 t :=
  before0_3_of m (datsV m 0 c) (A_eq m c 3) (after0_3 m c) t d
theorem vbefore4 (c : Dev nD) (t : Fin cfg0.N) (d) : (datsV m 0 c).before 4 t d = iblk m c 4 t :=
  before0_4_of m (datsV m 0 c) (A_eq m c 4) (after0_4 m c) t d
theorem vbefore5 (c : Dev nD) (t : Fin cfg0.N) (d) : (datsV m 0 c).before 5 t d = iblk m c 5 t :=
  before0_5_of m (datsV m 0 c) (A_eq m c 5) (after0_5 m c) t d
theorem vbefore6 (c : Dev nD) (t : Fin cfg0.N) (d) : (datsV m 0 c).before 6 t d = iblk m c 6 t :=
  before0_6_of m (datsV m 0 c) (A_eq m c 6) (after0_6 m c) t d

/-- The data, the results' windows held to their predicates. -/
def rdat (c : Dev nD) := (datsV m 0 c).toRRel forgets0 (Rl m c)

theorem fetch8 : ∀ t : Fin cfg0.N, (cfg0.win 8).fetch t = false := by decide +kernel
theorem flush8_63 : (cfg0.win 8).flush ⟨63, by decide⟩ = false := by decide +kernel
theorem flush7_pos : ∀ t : Fin cfg0.N, (cfg0.win 7).flush t = true → 0 < t.val := by decide +kernel

/-- At the last step, which quantises nothing, the codes' window is found as the step before left it. -/
theorem finds8 (c : Dev nD) (t : Fin cfg0.N) (ht : ¬ t.val < 64) (Y : FVec Ideal S1408x640 .fp8e4m3) (h : (rdat m c).Finds 8 t Y) : P8 m c t Y := by
  have e : t = ⟨64, by decide⟩ := Fin.ext (by have := t.isLt; have : cfg0.N = 65 := rfl; show t.val = 64; omega)
  subst e
  rcases (Pipeline.RDat.finds_of_pos (rd := rdat m c) (w := 8) (fetch8 _) (by decide) Y).mp h with h' | h'
  · exact absurd h' (by rw [show (⟨(⟨64, by decide⟩ : Fin cfg0.N).val - 1, _⟩ : Fin cfg0.N) = ⟨63, by decide⟩ from rfl, flush8_63]; decide)
  · have := Dat.toRRel_leaves (datsV m 0 c) (fgt := forgets0) (Rl := Rl m c) (w := 8) rfl h'
    exact this

def bodyPre (c : Dev nD) (t : Fin cfg0.N) : sProp 𝕄 :=
  iprop(PhiV m c t.val ∗ (datsV m 0 c).owesAt () t.castSucc
    ∗ (∃ d, owns (c : Thread nD τ) (ms0 t) fullShare ((datsV m 0 c).before 0 t d))
    ∗ (∃ d, owns (c : Thread nD τ) (ms1 t) fullShare ((datsV m 0 c).before 1 t d))
    ∗ (∃ d, owns (c : Thread nD τ) (ms2 t) fullShare ((datsV m 0 c).before 2 t d))
    ∗ (∃ d, owns (c : Thread nD τ) (ms3 t) fullShare ((datsV m 0 c).before 3 t d))
    ∗ (∃ d, owns (c : Thread nD τ) (ms4 t) fullShare ((datsV m 0 c).before 4 t d))
    ∗ (∃ d, owns (c : Thread nD τ) (ms5 t) fullShare ((datsV m 0 c).before 5 t d))
    ∗ (∃ d, owns (c : Thread nD τ) (ms6 t) fullShare ((datsV m 0 c).before 6 t d))
    ∗ (∃ X, ⌜(rdat m c).Finds 7 t X⌝ ∗ owns (c : Thread nD τ) (ms7 t) fullShare X)
    ∗ (∃ X, ⌜(rdat m c).Finds 8 t X⌝ ∗ owns (c : Thread nD τ) (ms8 t) fullShare X))
def bodyPost (c : Dev nD) (t : Fin cfg0.N) : sProp 𝕄 :=
  iprop(PhiV m c (t.val + 1) ∗ (datsV m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ (∃ X, ⌜P7 m c t X⌝ ∗ owns (c : Thread nD τ) (ms7 t) fullShare X)
    ∗ (∃ X, ⌜P8 m c t X⌝ ∗ owns (c : Thread nD τ) (ms8 t) fullShare X))

theorem inv_succ (c : Dev nD) (t : Fin cfg0.N) (f10 : Buf (Elt Ideal) (ringM.view.loc (c : Thread nD τ))) (f11 : Buf (Elt Ideal) (lowM.view.loc (c : Thread nD τ)))
    (H : Inv (cdF m c) (Adn m c) t.val (ringM.view.read (Elt Ideal) f10) (lowM.view.read (Elt Ideal) f11)) :
    Inv (cdF m c) (Adn m c) (t.val + 1) (ringM.view.read (Elt Ideal) (ring1 c t (iblk m c 0 t) (iblk m c 1 t) (iblk m c 5 t) f10))
      (lowM.view.read (Elt Ideal) (low1 c t (iblk m c 0 t) (iblk m c 1 t) (iblk m c 5 t) f11)) := by
  have h5 := blk5 m c t
  have h0 := blk0 m c t
  rw [show (iblk m c 5 t) = Adn m c from h5]
  exact inv_step (AS m c (ix2 0 1)) (AX m c) (Adn m c) c t (iblk m c 0 t) ((sc1_eq t _).trans (congrFun h0 _)) (iblk m c 1 t)
    (fun ht x ch => blk1 m c t ht x ch) f10 f11 H

theorem p7 (c : Dev nD) (t : Fin cfg0.N) (f10 : Buf (Elt Ideal) (ringM.view.loc (c : Thread nD τ))) (f11 : Buf (Elt Ideal) (lowM.view.loc (c : Thread nD τ)))
    (H : Inv (cdF m c) (Adn m c) (t.val + 1) (ringM.view.read (Elt Ideal) f10) (lowM.view.read (Elt Ideal) f11)) (d : FVec Ideal S1408x1280 .bf16) :
    P7 m c t (res2 c t (iblk m c 0 t) (iblk m c 2 t) (iblk m c 3 t) (iblk m c 4 t) (iblk m c 6 t) f10 f11 d) := by
  intro h0 x o
  have e0 := blk0 m c t
  rw [show (iblk m c 2 t) = AW m c from blk2 m c t, show (iblk m c 3 t) = Aws m c from blk3 m c t, show (iblk m c 4 t) = Ab m c from blk4 m c t,
    show (iblk m c 6 t) = Aup m c from blk6 m c t]
  exact res2_apply (AS m c (ix2 0 0)) (AW m c) (Aws m c) (Ab m c) (Adn m c) (Aup m c) c t h0 (iblk m c 0 t) ((sc0_eq t _).trans (congrFun e0 _)) f10 f11 (cdF m c) H d x o

theorem p8 (c : Dev nD) (t : Fin cfg0.N) (d : FVec Ideal S1408x640 .fp8e4m3) (hd : ¬ t.val < 64 → P8 m c t d) :
    P8 m c t (codes1 c t (iblk m c 0 t) (iblk m c 1 t) (iblk m c 5 t) d) := by
  by_cases ht : t.val < 64
  · intro x ch
    have e : min t.val 63 = t.val := by omega
    have e0 := blk0 m c t
    rw [e, show (iblk m c 5 t) = Adn m c from blk5 m c t]
    exact codes1_apply (AS m c (ix2 0 1)) (AX m c) (Adn m c) c t ht (iblk m c 0 t) ((sc1_eq t _).trans (congrFun e0 _)) (iblk m c 1 t)
      (fun x ch => blk1 m c t ht x ch) d x ch
  · have : codes1 c t (iblk m c 0 t) (iblk m c 1 t) (iblk m c 5 t) d = d := dif_neg fun h => ht ((cond1_iff t).mp h)
    rw [this]; exact hd ht

set_option maxHeartbeats 800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [vbefore0, vbefore1, vbefore2, vbefore3, vbefore4, vbefore5, vbefore6]
  rw [show (datsV m 0 c).owesAt () t.succ = (datsV m 0 c).owesAt () t.castSucc from rfl]
  unfold PhiV
  iintro ⟨⟨⟨%f10, %f11, %H, H10, H11⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩, ⟨%d8, %h8, H8⟩⟩
  iapply (core c t (cond_or t) (iblk m c 0 t) (iblk m c 1 t) (iblk m c 2 t) (iblk m c 3 t) (iblk m c 4 t) (iblk m c 5 t) (iblk m c 6 t) d7 d8 f10 f11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iintro ⟨H0, H1, H2, H3, H4, H5, H6, H7, H8, H10, H11⟩
  isplitl [H10 H11 Hg]
  · isplitl [H10 H11]
    · iexists _; iexists _
      isplitr
      · ipureintro; exact inv_succ m c t f10 f11 H
      isplitl [H10]; · iexact H10
      iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    · ipureintro; exact p7 m c t _ _ (inv_succ m c t f10 f11 H) d7
    iexact H7
  iexists _; isplitr
  · ipureintro; exact p8 m c t d8 fun ht => finds8 m c t ht d8 h8
  iexact H8

theorem body_obligation (c : Dev nD) : BodyObligationRel (datsV m 0 c) (defs₀ (F := Ideal)) Variants.none () Set.univ forgets0 (Rl m c) := fun t => by
  rw [bigSep_W0, bigSep_W0, defs₀_row]
  exact triple_restated (sound_body m c t) rfl .rfl fun _ => .rfl

theorem hin (c : Dev nD) : (Pipeline.ΦA spec0 c : sProp 𝕄) ⊢ PhiV m c 0 := by
  rw [PhiA_eq]
  unfold PhiV
  iintro ⟨⟨⟨%f10, H10⟩, ⟨%f11, H11⟩⟩, Hg⟩
  isplitl [H10 H11]
  · iexists f10; iexists f11
    isplitr
    · ipureintro; intro s hs h; omega
    isplitl [H10]; · iexact H10
    iexact H11
  iexact Hg

theorem hout (c : Dev nD) (n : Nat) : PhiV m c n ⊢ (Pipeline.ΦA spec0 c : sProp 𝕄) := by
  rw [PhiA_eq]
  unfold PhiV
  iintro ⟨⟨%f10, %f11, %H, H10, H11⟩, Hg⟩
  isplitl [H10 H11]
  · isplitl [H10]; · iexists f10; iexact H10
    iexists f11; iexact H11
  iexact Hg

set_option backward.isDefEq.respectTransparency.types false in
theorem run_main : θ_run defs (onTc (τ := τ) (main (F := Ideal))) (s₀ m ρ) (Pipeline.RDat.FramePost cfg0 (rdat m) (V m)) :=
  Pipeline.RDat.θ_run_frame_track cfgs (0 : Fin 1) launch0 defs₀ Variants.none (rdat m) m ρ main
    (hbody := fun c => (body_obligation m c).toRRel) (hshare := fun c => (datsV m 0 c).share_full fun _ => rfl)
    (howed := fun _ _ => rfl) (V := V m) (hmain := hmain m Variants.none) (hA := A_eq m) (hin := hin m) (hout := fun c => hout m c _)

/-! ## The two arrays after the run -/

def GY (c : Dev nD) : FVec Ideal S90112x1280 .bf16 := fun i => yF m c (i 0).val (i 1)
def GQ (c : Dev nD) : FVec Ideal S90112x640 .fp8e4m3 := fun i => cdF m c (i 0).val (i 1).val

theorem arr_eq (r : PUnit × MemSt nD τ sig (Elt Ideal)) (h : Pipeline.RDat.FramePost cfg0 (rdat m) (V m) r) (c : Dev nD) :
    r.2.mem ((c : Thread nD τ).loc main_v15_0) = GY m c ∧ r.2.mem ((c : Thread nD τ).loc main_v15_1) = GQ m c := by
  obtain ⟨after, hL, hA⟩ := h.exists_exact c
  constructor
  · refine (hA 7).trans ?_
    refine Dat.arrAt_eq_of_covers ((rdat m c).withAfter after) 7 (GY m c) (by decide +kernel) fun t hf y => ?_
    have hP : P7 m c t (after 7 t) := Dat.toRRel_leaves (datsV m 0 c) (fgt := forgets0) (Rl := Rl m c) (w := 7) rfl (hL 7 t hf)
    obtain ⟨a, o, rfl⟩ : ∃ (a : Fin 1408) (o : Fin 1280), y = ix2 a o := ⟨y 0, y 1, eq_ix2 y⟩
    refine (hP (flush7_pos t hf) a o).trans ?_
    unfold GY
    have hi := idx7 t
    have e0 : ((((cfg0.win 7).blk t).view.emb (ix2 a o)) 0 : ℕ) = 1408 * (t.val - 1) + a.val := by blk_simp [hi]; omega
    have e1 : ((((cfg0.win 7).blk t).view.emb (ix2 a o)) 1 : ℕ) = o.val := by blk_simp [hi]
    exact congrArg₂ (yF m c) e0.symm (Fin.ext e1.symm)
  · refine (hA 8).trans ?_
    refine Dat.arrAt_eq_of_covers ((rdat m c).withAfter after) 8 (GQ m c) (by decide +kernel) fun t hf y => ?_
    have hP : P8 m c t (after 8 t) := Dat.toRRel_leaves (datsV m 0 c) (fgt := forgets0) (Rl := Rl m c) (w := 8) rfl (hL 8 t hf)
    obtain ⟨a, o, rfl⟩ : ∃ (a : Fin 1408) (o : Fin 640), y = ix2 a o := ⟨y 0, y 1, eq_ix2 y⟩
    refine (hP a o).trans ?_
    unfold GQ
    have hi := idx8 t
    have e0 : ((((cfg0.win 8).blk t).view.emb (ix2 a o)) 0 : ℕ) = 1408 * min t.val 63 + a.val := by blk_simp [hi]; omega
    have e1 : ((((cfg0.win 8).blk t).view.emb (ix2 a o)) 1 : ℕ) = o.val := by blk_simp [hi]
    exact congrArg₂ (cdF m c) e0.symm e1.symm

/-- The run: the two results, and every argument as launched. -/
theorem run : θ_run defs (onTc (τ := τ) (main (F := Ideal))) ⟨m, fun _ => 0, ρ⟩ (fun r => ∀ c : Dev nD,
      r.2.mem ((c : Thread nD τ).loc main_v15_0) = GY m c
      ∧ r.2.mem ((c : Thread nD τ).loc main_v15_1) = GQ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨(arr_eq m r h c).1, (arr_eq m r h c).2,
    ((congrFun (Pipeline.RDat.ArrAt_in (rdat m c) 0 rfl cfg0.N) _).mp ((h c).1 0)).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.KernelIdeal.Hand.Val

end
-- ==== Proof.KernelIdeal.HostVal.lean ====
/-
  The arrays that the host prepares for the region, entry by entry, in terms of the arguments.
-/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand.Host

open Cert.KernelIdeal Cert.KernelIdeal.Gen
open Idealize.ShloMosaic Idealize.ShloMosaic.TcCoe Idealize.ShloMosaic.Tactic Idealize.ShloMosaic.Pointwise

variable (m : (ℓ : Loc nD τ sig) → Buf (Elt Ideal) ℓ)

theorem x_apply (c : Dev nD) (R : Fin 90112) (ch : Fin 640) : (V m c main_v0 : FVec Ideal S90112x640 .bf16) (ix2 R ch) =
    (m ((c : Thread nD τ).loc main_arg1) : FVec Ideal S2x256x176x640 .bf16) (ix4 ⟨R.val / 45056, by omega⟩ ⟨R.val / 176 % 256, by omega⟩ ⟨R.val % 176, by omega⟩ ch) := by
  simp only [V, List.flatten_cons, List.flatten_nil, List.append_nil, List.cons_append, List.nil_append]
  entry_read
  pointwise
  blk_ext []

theorem w_apply (c : Dev nD) (t : Fin 9) (ch : Fin 640) (o : Fin 1280) :
    (V m c main_v12 : FVec Ideal S5760x1280 .fp8e4m3) (ix2 ⟨t.val * 640 + ch.val, by omega⟩ o) =
    (m ((c : Thread nD τ).loc main_arg2) : FVec Ideal S3x3x640x1280 .fp8e4m3) (ix4 ⟨t.val / 3, by omega⟩ ⟨t.val % 3, by omega⟩ ch o) := by
  simp only [V, List.flatten_cons, List.flatten_nil, List.append_nil, List.cons_append, List.nil_append]
  entry_read
  pointwise
  blk_ext []

theorem ws_apply (c : Dev nD) (o : Fin 1280) : (V m c main_v13 : FVec Ideal S1x1280 .f32) (ix2 0 o) =
    (m ((c : Thread nD τ).loc main_arg3) : FVec Ideal S1280 .f32) (ix1 o) := by
  simp only [V, List.flatten_cons, List.flatten_nil, List.append_nil, List.cons_append, List.nil_append]
  entry_read
  pointwise

theorem b_apply (c : Dev nD) (o : Fin 1280) : (V m c main_v14 : FVec Ideal S1x1280 .f32) (ix2 0 o) =
    (m ((c : Thread nD τ).loc main_arg4) : FVec Ideal S1280 .f32) (ix1 o) := by
  simp only [V, List.flatten_cons, List.flatten_nil, List.append_nil, List.cons_append, List.nil_append]
  entry_read
  pointwise

theorem up_apply (c : Dev nD) (r : Fin 20) (o : Fin 1280) : (V m c main_v11 : FVec Ideal S128x1280 .bf16) (ix2 ⟨r.val, by omega⟩ o) =
    (m ((c : Thread nD τ).loc main_arg6) : FVec Ideal S20x1280 .bf16) (ix2 r o) := by
  simp only [V, List.flatten_cons, List.flatten_nil, List.append_nil, List.cons_append, List.nil_append]
  entry_read
  simp only [StableHlo.TRef.toBuf, StableHlo.TRef.ofBuf, StableHlo.TRef.of, cast_eq]
  pointwise

set_option maxHeartbeats 2000000 in
theorem dn_apply (c : Dev nD) (t : Fin 9) (ch : Fin 640) (r : Fin 20) :
    (V m c main_v10 : FVec Ideal S640x256 .bf16) (ix2 ch ⟨128 * (t.val / 6) + 20 * (t.val % 6) + r.val, by omega⟩) =
    (m ((c : Thread nD τ).loc main_arg5) : FVec Ideal S3x3x640x20 .bf16) (ix4 ⟨t.val / 3, by omega⟩ ⟨t.val % 3, by omega⟩ ch r) := by
  simp only [V, List.flatten_cons, List.flatten_nil, List.append_nil, List.cons_append, List.nil_append]
  entry_read
  simp only [StableHlo.TRef.toBuf, StableHlo.TRef.ofBuf, StableHlo.TRef.of, cast_eq]
  fin_cases t <;> pointwise
  all_goals
    have hr := r.isLt
    split_ifs <;> first | omega | skip
    all_goals
      refine congrArg (m (c, Proc.tc.devRef main_arg5)) ?_
      funext a
      refine Fin.ext ?_
      fin_cases a
      all_goals first | rfl | simp | skip
      all_goals first | omega | skip

end Cert.KernelIdeal.Hand.Host

end
-- ==== Proof.ReferenceIdeal.Pieces.lean ====
/-
  The reference's pieces as formulas: its codes, its zero-padded codes, the nine patches of them, and its matrix products.
-/
module

public import proofs.«01_k».proof.Proof.Gen.ReferenceIdeal.Skeleton
public import proofs.«01_k».proof.Proof.Gen.ReferenceIdeal
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Pointwise Cert.Spec

/-- The codes of the pixel with row-major number `R`. -/
def cdR (inv : EReal) (x : FVec Ideal S2x256x176x640 .bf16) (R ch : Nat) : EReal :=
  if h : R < 90112 ∧ ch < 640 then codeS inv (x (ix4 ⟨R / 45056, by omega⟩ ⟨R / 176 % 256, by omega⟩ ⟨R % 176, by omega⟩ ⟨ch, h.2⟩)) else 0

variable (v1 : EReal) (v2 : FVec Ideal S2x256x176x640 .bf16)

theorem pay2_apply (b : Fin 2) (y : Fin 256) (x : Fin 176) (ch : Fin 640) :
    k0_pay2 (F := Ideal) v1 v2 (ix4 b y x ch) = codeS v1 (v2 (ix4 b y x ch)) := by
  unfold codeS
  pointwise [k0_pay2]

theorem flat_apply (v : FVec Ideal S2x256x176x640 .fp8e4m3) (R : Fin 90112) (ch : Fin 640) :
    shapeCast S90112x640 v shapeCasts_S2x256x176x640_S90112x640 (ix2 R ch) =
      v (ix4 ⟨R.val / 45056, by omega⟩ ⟨R.val / 176 % 256, by omega⟩ ⟨R.val % 176, by omega⟩ ch) := by
  pointwise
  blk_ext []

theorem pay3_apply (R : Fin 90112) (ch : Fin 640) : k0_pay3 (F := Ideal) v1 v2 (ix2 R ch) = cdR v1 v2 R.val ch.val := by
  unfold cdR
  rw [dif_pos ⟨R.isLt, ch.isLt⟩, ← pay2_apply]
  exact flat_apply (k0_pay2 (F := Ideal) v1 v2) R ch

theorem pay4_apply (b : Fin 2) (y : Fin 258) (x : Fin 178) (ch : Fin 640) :
    k0_pay4 (F := Ideal) v1 v2 (ix4 b y x ch) =
      if h : (1 ≤ y.val ∧ y.val ≤ 256) ∧ 1 ≤ x.val ∧ x.val ≤ 176 then codeS v1 (v2 (ix4 b ⟨y.val - 1, by omega⟩ ⟨x.val - 1, by omega⟩ ch)) else 0 := by
  have h2 := fun y x => pay2_apply v1 v2 b y x ch
  unfold k0_pay4
  revert h2
  generalize k0_pay2 (F := Ideal) v1 v2 = P
  intro h2
  split
  · rename_i h
    rw [← h2]
    pointwise
    rw [dif_pos (by omega), dif_neg (by omega), dif_pos (by omega), dif_neg (by omega)]
  · rename_i h
    pointwise
    split_ifs <;> first | omega | simp

/-- What tap `(dy, dx)` reads of the padded codes. -/
theorem tapR (R : Fin 90112) (ch : Fin 640) (dy dx : Nat) (hy : dy < 3) (hx : dx < 3) :
    k0_pay4 (F := Ideal) v1 v2 (ix4 ⟨R.val / 45056, by omega⟩ ⟨R.val / 176 % 256 + dy, by omega⟩ ⟨R.val % 176 + dx, by omega⟩ ch) =
      tap (cdR v1 v2) R.val dy dx ch.val := by
  have hR := R.isLt
  have hch := ch.isLt
  obtain ⟨b, y, x, hb, hyy, hxx, e⟩ : ∃ b y x : Nat, b < 2 ∧ y < 256 ∧ x < 176 ∧ R.val = 45056 * b + 176 * y + x :=
    ⟨R.val / 45056, R.val / 176 % 256, R.val % 176, by omega, by omega, by omega, by omega⟩
  have e1 : R.val / 45056 = b := by omega
  have e2 : R.val / 176 % 256 = y := by omega
  have e3 : R.val % 176 = x := by omega
  have key : ∀ R', R' = 45056 * b + 176 * (y + dy - 1) + (x + dx - 1) → ∀ (h1 : 1 ≤ y + dy) (h2 : y + dy ≤ 256) (h3 : 1 ≤ x + dx) (h4 : x + dx ≤ 176),
      cdR v1 v2 R' ch.val = codeS v1 (v2 (ix4 ⟨b, hb⟩ ⟨y + dy - 1, by omega⟩ ⟨x + dx - 1, by omega⟩ ch)) := by
    intro R' e' h1 h2 h3 h4
    unfold cdR
    rw [dif_pos ⟨by omega, hch⟩]
    congr 2
    have a1 : R' / 45056 = b := by omega
    have a2 : R' / 176 % 256 = y + dy - 1 := by omega
    have a3 : R' % 176 = x + dx - 1 := by omega
    simp only [a1, a2, a3]
  rw [pay4_apply]
  unfold tap shiftV
  simp only [e1, e2, e3]
  have m : (R.val + 176 * dy - 176) % 176 = x ∨ (y + dy = 0) := by omega
  by_cases c1 : dy = 0 ∧ y = 0
  · rw [dif_neg (by omega), if_pos c1]
  rw [if_neg c1]
  by_cases c2 : dy = 2 ∧ y = 255
  · rw [dif_neg (by omega), if_pos c2]
  rw [if_neg c2]
  have m' : (R.val + 176 * dy - 176) % 176 = x := by omega
  rw [m']
  by_cases d1 : dx = 1
  · rw [if_pos d1, dif_pos (by omega), key _ (by omega) (by omega) (by omega) (by omega) (by omega)]
  rw [if_neg d1]
  by_cases d0 : dx = 0
  · rw [if_pos d0]
    by_cases x0 : x = 0
    · rw [if_pos x0, dif_neg (by omega)]
    · rw [if_neg x0, dif_pos (by omega), key _ (by omega) (by omega) (by omega) (by omega) (by omega)]
  rw [if_neg d0]
  by_cases x0 : x = 175
  · rw [if_pos x0, dif_neg (by omega)]
  · rw [if_neg x0, dif_pos (by omega), key _ (by omega) (by omega) (by omega) (by omega) (by omega)]

/-! ## The nine patches -/

section
variable (v : FVec Ideal S2x258x178x640 .bf16) (R : Fin 90112) (ch : Fin 640)
/-- Where tap `(dy, dx)` reads the padded codes. -/
abbrev pt4 (R : Fin 90112) (ch : Fin 640) (dy dx : Nat) (hy : dy < 3) (hx : dx < 3) : S2x258x178x640.Idx :=
  ix4 ⟨R.val / 45056, by omega⟩ ⟨R.val / 176 % 256 + dy, by omega⟩ ⟨R.val % 176 + dx, by omega⟩ ch
theorem flat2_apply (w : FVec Ideal S2x256x176x640 .bf16) :
    shapeCast S90112x640 w shapeCasts_S2x256x176x640_S90112x640 (ix2 R ch) =
      w (ix4 ⟨R.val / 45056, by omega⟩ ⟨R.val / 176 % 256, by omega⟩ ⟨R.val % 176, by omega⟩ ch) := flat_apply w R ch
theorem patch_apply (dy dx : Nat) (hy : dy < 3) (hx : dx < 3) (h) :
    shapeCast S90112x640 (extractStridedSlice S2x256x176x640 ![0, dy, dx, 0] v h) shapeCasts_S2x256x176x640_S90112x640 (ix2 R ch) = v (pt4 R ch dy dx hy hx) := by
  rw [flat2_apply]
  refine congrArg v ?_
  funext a
  refine Fin.ext ?_
  fin_cases a
  · exact Nat.zero_add _
  · exact Nat.add_comm _ _
  · exact Nat.add_comm _ _
  · exact Nat.zero_add _
end

theorem p00 (R : Fin 90112) (ch : Fin 640) : k0_pay6 (F := Ideal) v1 v2 (ix2 R ch) = tap (cdR v1 v2) R.val 0 0 ch.val :=
  (patch_apply _ R ch 0 0 (by decide) (by decide) _).trans (tapR v1 v2 R ch 0 0 (by decide) (by decide))
theorem p01 (R : Fin 90112) (ch : Fin 640) : k0_pay9 (F := Ideal) (k0_pay4 v1 v2) (ix2 R ch) = tap (cdR v1 v2) R.val 0 1 ch.val :=
  (patch_apply _ R ch 0 1 (by decide) (by decide) _).trans (tapR v1 v2 R ch 0 1 (by decide) (by decide))
theorem p02 (R : Fin 90112) (ch : Fin 640) : k0_pay10 (F := Ideal) (k0_pay4 v1 v2) (ix2 R ch) = tap (cdR v1 v2) R.val 0 2 ch.val :=
  (patch_apply _ R ch 0 2 (by decide) (by decide) _).trans (tapR v1 v2 R ch 0 2 (by decide) (by decide))
theorem p10 (R : Fin 90112) (ch : Fin 640) : k0_pay12 (F := Ideal) (k0_pay4 v1 v2) (ix2 R ch) = tap (cdR v1 v2) R.val 1 0 ch.val :=
  (patch_apply _ R ch 1 0 (by decide) (by decide) _).trans (tapR v1 v2 R ch 1 0 (by decide) (by decide))
theorem p11 (R : Fin 90112) (ch : Fin 640) : k0_pay14 (F := Ideal) (k0_pay4 v1 v2) (ix2 R ch) = tap (cdR v1 v2) R.val 1 1 ch.val :=
  (patch_apply _ R ch 1 1 (by decide) (by decide) _).trans (tapR v1 v2 R ch 1 1 (by decide) (by decide))
theorem p12 (R : Fin 90112) (ch : Fin 640) : k0_pay15 (F := Ideal) (k0_pay4 v1 v2) (ix2 R ch) = tap (cdR v1 v2) R.val 1 2 ch.val :=
  (patch_apply _ R ch 1 2 (by decide) (by decide) _).trans (tapR v1 v2 R ch 1 2 (by decide) (by decide))
theorem p20 (R : Fin 90112) (ch : Fin 640) : k0_pay17 (F := Ideal) (k0_pay4 v1 v2) (ix2 R ch) = tap (cdR v1 v2) R.val 2 0 ch.val :=
  (patch_apply _ R ch 2 0 (by decide) (by decide) _).trans (tapR v1 v2 R ch 2 0 (by decide) (by decide))
theorem p21 (R : Fin 90112) (ch : Fin 640) : k0_pay19 (F := Ideal) (k0_pay4 v1 v2) (ix2 R ch) = tap (cdR v1 v2) R.val 2 1 ch.val :=
  (patch_apply _ R ch 2 1 (by decide) (by decide) _).trans (tapR v1 v2 R ch 2 1 (by decide) (by decide))
theorem p22 (R : Fin 90112) (ch : Fin 640) : k0_pay20 (F := Ideal) (k0_pay4 v1 v2) (ix2 R ch) = tap (cdR v1 v2) R.val 2 2 ch.val :=
  (patch_apply _ R ch 2 2 (by decide) (by decide) _).trans (tapR v1 v2 R ch 2 2 (by decide) (by decide))

/-! ## The matrix products -/

theorem dotW (A : FVec Ideal S90112x640 .bf16) (v : Vec Ideal S1x1x640x1280 .fp8e4m3) (R : Fin 90112) (o : Fin 1280) :
    matmul dot_S90112x640_S640x1280_S90112x1280_1_0_0_1_n_n none A (extf .bf16 (shapeCast S640x1280 v shapeCasts_S1x1x640x1280_S640x1280) bitsLt_fp8e4m3_bf16)
      (constant S90112x1280 .f32 0x00000000#32) (ix2 R o) = ∑ k : Fin 640, A (ix2 R k) * v (ix4 0 0 k o) := by
  pointwise
theorem dotD (A : FVec Ideal S90112x640 .bf16) (v : Vec Ideal S1x1x640x20 .bf16) (R : Fin 90112) (r : Fin 20) :
    matmul dot_S90112x640_S640x20_S90112x20_1_0_0_1_n_n none A (φ₂ := .bf16) (shapeCast S640x20 v shapeCasts_S1x1x640x20_S640x20)
      (constant S90112x20 .f32 0x00000000#32) (ix2 R r) = ∑ k : Fin 640, A (ix2 R k) * v (ix4 0 0 k r) := by
  pointwise
theorem dotU (A : FVec Ideal S90112x20 .bf16) (v : Vec Ideal S20x1280 .bf16) (R : Fin 90112) (o : Fin 1280) :
    matmul dot_S90112x20_S20x1280_S90112x1280_1_0_0_1_n_n none A (φ₂ := .bf16) v
      (constant S90112x1280 .f32 0x00000000#32) (ix2 R o) = ∑ r : Fin 20, A (ix2 R r) * v (ix2 r o) := by
  pointwise

end Cert.ReferenceIdeal.Hand

end
-- ==== Proof.ReferenceIdeal.RefVal.lean ====
/-
  The reference's two result arrays, entry by entry: its codes and its results as the formulas of `Proof.Spec`.
-/
module

public import proofs.«01_k».proof.Proof.ReferenceIdeal.Pieces

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Pointwise Cert.Spec

variable (v1 : EReal) (v2 : FVec Ideal S2x256x176x640 .bf16) (P : FVec Ideal S2x258x178x640 .bf16)

theorem pay7_apply (w : Vec Ideal S1x1x640x1280 .fp8e4m3) (R : Fin 90112) (o : Fin 1280) :
    k0_pay7 (F := Ideal) v1 v2 w (ix2 R o) = ∑ k : Fin 640, k0_pay6 (F := Ideal) v1 v2 (ix2 R k) * w (ix4 0 0 k o) := by
  pointwise [k0_pay7]

theorem pay13_apply (A : FVec Ideal S90112x1280 .f32) (w w' w'' : Vec Ideal S1x1x640x1280 .fp8e4m3) (R : Fin 90112) (o : Fin 1280) :
    k0_pay13 (F := Ideal) P A w w' w'' (ix2 R o) = A (ix2 R o) + (∑ k : Fin 640, k0_pay9 (F := Ideal) P (ix2 R k) * w (ix4 0 0 k o))
      + (∑ k : Fin 640, k0_pay10 (F := Ideal) P (ix2 R k) * w' (ix4 0 0 k o)) + ∑ k : Fin 640, k0_pay12 (F := Ideal) P (ix2 R k) * w'' (ix4 0 0 k o) := by
  pointwise [k0_pay13]

theorem pay18_apply (A : FVec Ideal S90112x1280 .f32) (w w' w'' : Vec Ideal S1x1x640x1280 .fp8e4m3) (R : Fin 90112) (o : Fin 1280) :
    k0_pay18 (F := Ideal) P A w w' w'' (ix2 R o) = A (ix2 R o) + (∑ k : Fin 640, k0_pay14 (F := Ideal) P (ix2 R k) * w (ix4 0 0 k o))
      + (∑ k : Fin 640, k0_pay15 (F := Ideal) P (ix2 R k) * w' (ix4 0 0 k o)) + ∑ k : Fin 640, k0_pay17 (F := Ideal) P (ix2 R k) * w'' (ix4 0 0 k o) := by
  pointwise [k0_pay18]

theorem pay22_apply (v0 : EReal) (A : FVec Ideal S90112x1280 .f32) (w w' : Vec Ideal S1x1x640x1280 .fp8e4m3) (R : Fin 90112) (o : Fin 1280) :
    k0_pay22 (F := Ideal) v0 P A w w' (ix2 R o) = (A (ix2 R o) + (∑ k : Fin 640, k0_pay19 (F := Ideal) P (ix2 R k) * w (ix4 0 0 k o))
      + ∑ k : Fin 640, k0_pay20 (F := Ideal) P (ix2 R k) * w' (ix4 0 0 k o)) * v0 := by
  pointwise [k0_pay22]

theorem pay11_apply (A : FVec Ideal S90112x640 .bf16) (d d' d'' : Vec Ideal S1x1x640x20 .bf16) (R : Fin 90112) (r : Fin 20) :
    k0_pay11 (F := Ideal) P (k0_pay5 (F := Ideal)) A (k0_pay8 (F := Ideal) d) (constant S90112x20 .f32 0x00000000#32) d' d'' (ix2 R r) =
      (∑ k : Fin 640, A (ix2 R k) * d (ix4 0 0 k r))
      + (∑ k : Fin 640, k0_pay9 (F := Ideal) P (ix2 R k) * d' (ix4 0 0 k r)) + ∑ k : Fin 640, k0_pay10 (F := Ideal) P (ix2 R k) * d'' (ix4 0 0 k r) := by
  pointwise [k0_pay11, k0_pay8, k0_pay5]

theorem pay16_apply (Z : FVec Ideal S90112x20 .f32) (A : FVec Ideal S90112x640 .bf16) (d d' d'' : Vec Ideal S1x1x640x20 .bf16) (R : Fin 90112) (r : Fin 20) :
    k0_pay16 (F := Ideal) P Z A d d' d'' (ix2 R r) = Z (ix2 R r) + (∑ k : Fin 640, A (ix2 R k) * d (ix4 0 0 k r))
      + (∑ k : Fin 640, k0_pay14 (F := Ideal) P (ix2 R k) * d' (ix4 0 0 k r)) + ∑ k : Fin 640, k0_pay15 (F := Ideal) P (ix2 R k) * d'' (ix4 0 0 k r) := by
  pointwise [k0_pay16]

theorem pay21_apply (v0 : EReal) (Z : FVec Ideal S90112x20 .f32) (A : FVec Ideal S90112x640 .bf16) (d d' d'' : Vec Ideal S1x1x640x20 .bf16)
    (u : Vec Ideal S20x1280 .bf16) (R : Fin 90112) (o : Fin 1280) :
    k0_pay21 (F := Ideal) v0 P Z A d d' d'' u (ix2 R o) = ∑ r : Fin 20, (Z (ix2 R r) + (∑ k : Fin 640, A (ix2 R k) * d (ix4 0 0 k r))
      + (∑ k : Fin 640, k0_pay19 (F := Ideal) P (ix2 R k) * d' (ix4 0 0 k r)) + ∑ k : Fin 640, k0_pay20 (F := Ideal) P (ix2 R k) * d'' (ix4 0 0 k r)) * v0 * u (ix2 r o) := by
  pointwise [k0_pay21]

theorem pay1_apply (L M : FVec Ideal S90112x1280 .f32) (ws b : Vec Ideal S1x1280 .f32) (R : Fin 90112) (o : Fin 1280) :
    k0_pay1 (F := Ideal) L M ws b (ix2 R o) = M (ix2 R o) * ws (ix2 0 o) + b (ix2 0 o) + Ideal.ofBits .f32 0x3ECCCCCD#32 * L (ix2 R o) := by
  pointwise [k0_pay1]

theorem y_ref (v0 : EReal) (w0 w1 w2 w3 w4 w5 w6 w7 w8 : Vec Ideal S1x1x640x1280 .fp8e4m3) (d0 d1 d2 d3 d4 d5 d6 d7 d8 : Vec Ideal S1x1x640x20 .bf16)
    (u : Vec Ideal S20x1280 .bf16) (ws b : Vec Ideal S1x1280 .f32) (W : Fin 9 → Fin 640 → Fin 1280 → EReal) (D : Fin 9 → Fin 640 → Fin 20 → EReal)
    (hw0 : ∀ k o, w0 (ix4 0 0 k o) = W 0 k o) (hw1 : ∀ k o, w1 (ix4 0 0 k o) = W 1 k o) (hw2 : ∀ k o, w2 (ix4 0 0 k o) = W 2 k o)
    (hw3 : ∀ k o, w3 (ix4 0 0 k o) = W 3 k o) (hw4 : ∀ k o, w4 (ix4 0 0 k o) = W 4 k o) (hw5 : ∀ k o, w5 (ix4 0 0 k o) = W 5 k o)
    (hw6 : ∀ k o, w6 (ix4 0 0 k o) = W 6 k o) (hw7 : ∀ k o, w7 (ix4 0 0 k o) = W 7 k o) (hw8 : ∀ k o, w8 (ix4 0 0 k o) = W 8 k o)
    (hd0 : ∀ k r, d0 (ix4 0 0 k r) = D 0 k r) (hd1 : ∀ k r, d1 (ix4 0 0 k r) = D 1 k r) (hd2 : ∀ k r, d2 (ix4 0 0 k r) = D 2 k r)
    (hd3 : ∀ k r, d3 (ix4 0 0 k r) = D 3 k r) (hd4 : ∀ k r, d4 (ix4 0 0 k r) = D 4 k r) (hd5 : ∀ k r, d5 (ix4 0 0 k r) = D 5 k r)
    (hd6 : ∀ k r, d6 (ix4 0 0 k r) = D 6 k r) (hd7 : ∀ k r, d7 (ix4 0 0 k r) = D 7 k r) (hd8 : ∀ k r, d8 (ix4 0 0 k r) = D 8 k r)
    (R : Fin 90112) (o : Fin 1280) :
    k0_pay1 (F := Ideal)
      (k0_pay21 v0 (k0_pay4 v1 v2) (k0_pay16 (k0_pay4 v1 v2) (k0_pay11 (k0_pay4 v1 v2) (k0_pay5 (F := Ideal)) (k0_pay6 v1 v2) (k0_pay8 d0) (constant S90112x20 .f32 0x00000000#32) d1 d2)
        (k0_pay12 (k0_pay4 v1 v2)) d3 d4 d5) (k0_pay17 (k0_pay4 v1 v2)) d6 d7 d8 u)
      (k0_pay22 v0 (k0_pay4 v1 v2) (k0_pay18 (k0_pay4 v1 v2) (k0_pay13 (k0_pay4 v1 v2) (k0_pay7 v1 v2 w0) w1 w2 w3) w4 w5 w6) w7 w8) ws b (ix2 R o) =
    yS (cdR v1 v2) v0 W (fun o => ws (ix2 0 o)) (fun o => b (ix2 0 o)) D (fun r o => u (ix2 r o)) R.val o := by
  have hl : ∀ r : Fin 20, lowS (cdR v1 v2) D R.val r = _ := fun r => sum9 _
  rw [pay1_apply, pay21_apply, pay22_apply, pay18_apply, pay13_apply, pay7_apply]
  simp only [pay16_apply, pay11_apply, p00, p01, p02, p10, p11, p12, p20, p21, p22, hw0, hw1, hw2, hw3, hw4, hw5, hw6, hw7, hw8, hd0, hd1, hd2, hd3, hd4, hd5, hd6, hd7, hd8]
  unfold yS
  simp only [hl]
  rw [mainS, sum9]
  rfl

end Cert.ReferenceIdeal.Hand

end
-- ==== Proof.ReferenceIdeal.RunVal.lean ====
/-
  What the reference's run leaves in its two result arrays, in terms of its arguments.
-/
module

public import proofs.«01_k».proof.Proof.ReferenceIdeal.RefVal
public import proofs.«01_k».proof.Proof.Gen.ReferenceIdeal.Value
public import Idealize.ShloMosaic.Lib.Claim
public import Idealize.ShloMosaic.Lib.Pipeline.ReadBack

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.Pointwise Cert.Spec

variable (m : (ℓ : Loc nD τ sig) → Buf (Elt Ideal) ℓ)

/-! ## The arguments -/

/-- The scale and its inverse. -/
def AS (c : Dev nD) : FVec Ideal S1x2 .f32 := m ((c : Thread nD τ).loc main_arg0)
/-- The pixels. -/
def AX (c : Dev nD) : FVec Ideal S2x256x176x640 .bf16 := m ((c : Thread nD τ).loc main_arg1)
/-- The weights. -/
def AW (c : Dev nD) : FVec Ideal S3x3x640x1280 .fp8e4m3 := m ((c : Thread nD τ).loc main_arg2)
/-- The weights' scales. -/
def Aws (c : Dev nD) : FVec Ideal S1280 .f32 := m ((c : Thread nD τ).loc main_arg3)
/-- The bias. -/
def Ab (c : Dev nD) : FVec Ideal S1280 .f32 := m ((c : Thread nD τ).loc main_arg4)
/-- The low-rank branch's first factor. -/
def Adn (c : Dev nD) : FVec Ideal S3x3x640x20 .bf16 := m ((c : Thread nD τ).loc main_arg5)
/-- The low-rank branch's second factor. -/
def Aup (c : Dev nD) : FVec Ideal S20x1280 .bf16 := m ((c : Thread nD τ).loc main_arg6)

/-- The codes. -/
def cdF (c : Dev nD) : Nat → Nat → EReal := cdR (AS m c (ix2 0 1)) (AX m c)
/-- The results. -/
def yF (c : Dev nD) (R : Nat) (o : Fin 1280) : EReal :=
  yS (cdF m c) (AS m c (ix2 0 0)) (fun t ch o => AW m c (ix4 ⟨t.val / 3, by omega⟩ ⟨t.val % 3, by omega⟩ ch o)) (fun o => Aws m c (ix1 o)) (fun o => Ab m c (ix1 o))
    (fun t ch r => Adn m c (ix4 ⟨t.val / 3, by omega⟩ ⟨t.val % 3, by omega⟩ ch r)) (fun r o => Aup m c (ix2 r o)) R o

/-! ## The blocks that the one step reads -/

theorem emb0 (t : Fin cfg0.N) (y : S1x2.Idx) : ((cfg0.win 0).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
theorem b0 (c : Dev nD) (t : Fin cfg0.N) : (iblk m c 0 t : FVec Ideal S1x2 .f32) = AS m c := by
  funext y
  refine (congrArg (V m c main_arg0 : FVec Ideal S1x2 .f32) (emb0 t y)).trans ?_
  exact congrFun (V_main_arg0 m c) y
theorem emb1 (t : Fin cfg0.N) (y : S2x256x176x640.Idx) : ((cfg0.win 1).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
  · show 0 + 1 * (y 2).val = (y 2).val; omega
  · show 0 + 1 * (y 3).val = (y 3).val; omega
theorem b1 (c : Dev nD) (t : Fin cfg0.N) : (iblk m c 1 t : FVec Ideal S2x256x176x640 .bf16) = AX m c := by
  funext y
  refine (congrArg (V m c main_arg1 : FVec Ideal S2x256x176x640 .bf16) (emb1 t y)).trans ?_
  exact congrFun (V_main_arg1 m c) y
theorem emb2 (t : Fin cfg0.N) (y : S3x3x640x1280.Idx) : ((cfg0.win 2).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
  · show 0 + 1 * (y 2).val = (y 2).val; omega
  · show 0 + 1 * (y 3).val = (y 3).val; omega
theorem b2 (c : Dev nD) (t : Fin cfg0.N) : (iblk m c 2 t : FVec Ideal S3x3x640x1280 .fp8e4m3) = AW m c := by
  funext y
  refine (congrArg (V m c main_arg2 : FVec Ideal S3x3x640x1280 .fp8e4m3) (emb2 t y)).trans ?_
  exact congrFun (V_main_arg2 m c) y
theorem emb3 (t : Fin cfg0.N) (y : S1x1280.Idx) : ((cfg0.win 3).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
theorem b3 (c : Dev nD) (t : Fin cfg0.N) (o : Fin 1280) : (iblk m c 3 t : FVec Ideal S1x1280 .f32) (ix2 0 o) = Aws m c (ix1 o) := by
  refine (congrArg (V m c main_v0 : FVec Ideal S1x1280 .f32) (emb3 t (ix2 0 o))).trans ?_
  unfold Aws
  entry_read
  pointwise
theorem emb4 (t : Fin cfg0.N) (y : S1x1280.Idx) : ((cfg0.win 4).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
theorem b4 (c : Dev nD) (t : Fin cfg0.N) (o : Fin 1280) : (iblk m c 4 t : FVec Ideal S1x1280 .f32) (ix2 0 o) = Ab m c (ix1 o) := by
  refine (congrArg (V m c main_v1 : FVec Ideal S1x1280 .f32) (emb4 t (ix2 0 o))).trans ?_
  unfold Ab
  entry_read
  pointwise
theorem emb5 (t : Fin cfg0.N) (y : S3x3x640x20.Idx) : ((cfg0.win 5).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
  · show 0 + 1 * (y 2).val = (y 2).val; omega
  · show 0 + 1 * (y 3).val = (y 3).val; omega
theorem b5 (c : Dev nD) (t : Fin cfg0.N) : (iblk m c 5 t : FVec Ideal S3x3x640x20 .bf16) = Adn m c := by
  funext y
  refine (congrArg (V m c main_arg5 : FVec Ideal S3x3x640x20 .bf16) (emb5 t y)).trans ?_
  exact congrFun (V_main_arg5 m c) y
theorem emb6 (t : Fin cfg0.N) (y : S20x1280.Idx) : ((cfg0.win 6).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega
theorem b6 (c : Dev nD) (t : Fin cfg0.N) : (iblk m c 6 t : FVec Ideal S20x1280 .bf16) = Aup m c := by
  funext y
  refine (congrArg (V m c main_arg6 : FVec Ideal S20x1280 .bf16) (emb6 t y)).trans ?_
  exact congrFun (V_main_arg6 m c) y

theorem s0 (A : Vec Ideal S1x2 .f32) (h) : View.ld (e' := .f32) (Val := Elt Ideal) A (Rect.unit (s := S1x2) ![0, 0] ![1, 1] inb_S1x2_S1x1_0_0) (Shape.Idx.first h) = A (ix2 0 0) := by
  refine congrArg A ?_
  funext a
  refine Fin.ext ?_
  fin_cases a <;> rfl
theorem s1 (A : Vec Ideal S1x2 .f32) (h) : View.ld (e' := .f32) (Val := Elt Ideal) A (Rect.unit (s := S1x2) ![0, 1] ![1, 1] inb_S1x2_S1x1_0_1) (Shape.Idx.first h) = A (ix2 0 1) := by
  refine congrArg A ?_
  funext a
  refine Fin.ext ?_
  fin_cases a <;> rfl

theorem emb8 (t : Fin cfg0.N) (y : S90112x640.Idx) : ((cfg0.win 8).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega

theorem emb7 (t : Fin cfg0.N) (y : S90112x1280.Idx) : ((cfg0.win 7).blk t).view.emb y = y := by
  have ht : t = ⟨0, by decide⟩ := Fin.ext (by have : t.val < 1 := t.isLt; show t.val = 0; omega)
  subst ht
  funext a
  refine Fin.ext ?_
  fin_cases a
  · show 0 + 1 * (y 0).val = (y 0).val; omega
  · show 0 + 1 * (y 1).val = (y 1).val; omega

theorem arr8 (c : Dev nD) : (dats m 0 c).arrAt 8 (cfgs 0).N = (fun i => cdF m c (i 0).val (i 1).val : FVec Ideal S90112x640 .fp8e4m3) := by
  refine (dats m 0 c).arrAt_eq_of_covers 8 _ (by decide +kernel) fun t hf y => ?_
  refine Eq.trans ?_ (congrArg (fun i : S90112x640.Idx => cdF m c (i 0).val (i 1).val) (emb8 t y).symm)
  blk_simp
  rw [after0_8]
  unfold outsAt0
  frame_out
  simp only [read_unread_whole, b0, b1]
  obtain ⟨R, ch, rfl⟩ : ∃ a o, y = ix2 a o := ⟨y 0, y 1, eq_ix2 y⟩
  refine (pay3_apply _ _ R ch).trans ?_
  exact congrArg (fun z : EReal => cdR z (AX m c) R.val ch.val) (s1 (AS m c) _)

/-- What the one step stores at `y`, given the blocks that it reads. -/
theorem y_ref' (c : Dev nD) (t : Fin cfg0.N) (R : Fin 90112) (o : Fin 1280) (p z0 z1 : EReal)
    (h0 : z0 = AS m c (ix2 0 0)) (h1 : z1 = AS m c (ix2 0 1))
    (hA : p = yS (cdR z1 (AX m c)) z0
      (fun t ch o => AW m c (ix4 ⟨t.val / 3, by omega⟩ ⟨t.val % 3, by omega⟩ ch o)) (fun o => (iblk m c 3 t : FVec Ideal S1x1280 .f32) (ix2 0 o))
      (fun o => (iblk m c 4 t : FVec Ideal S1x1280 .f32) (ix2 0 o))
      (fun t ch r => Adn m c (ix4 ⟨t.val / 3, by omega⟩ ⟨t.val % 3, by omega⟩ ch r)) (fun r o => Aup m c (ix2 r o)) R.val o) :
    p = yF m c R.val o := by
  subst h0 h1
  have e3 : (fun o => (iblk m c 3 t : FVec Ideal S1x1280 .f32) (ix2 0 o)) = fun o => Aws m c (ix1 o) := funext fun o => b3 m c t o
  have e4 : (fun o => (iblk m c 4 t : FVec Ideal S1x1280 .f32) (ix2 0 o)) = fun o => Ab m c (ix1 o) := funext fun o => b4 m c t o
  rw [e3, e4] at hA
  exact hA

set_option maxHeartbeats 4000000 in
theorem arr7 (c : Dev nD) : (dats m 0 c).arrAt 7 (cfgs 0).N = (fun i => yF m c (i 0).val (i 1) : FVec Ideal S90112x1280 .bf16) := by
  refine (dats m 0 c).arrAt_eq_of_covers 7 _ (by decide +kernel) fun t hf y => ?_
  refine Eq.trans ?_ (congrArg (fun i : S90112x1280.Idx => yF m c (i 0).val (i 1)) (emb7 t y).symm)
  blk_simp
  rw [after0_7]
  unfold outsAt0
  frame_out
  simp only [read_unread_whole, b0, b1, b2, b5, b6]
  obtain ⟨R, o, rfl⟩ : ∃ a o, y = ix2 a o := ⟨y 0, y 1, eq_ix2 y⟩
  refine y_ref' m c t R o _ _ _ ?_ ?_ (y_ref _ _ _ _ _ _ _ _ _ _ _ _ _ _ _ _ _ _ _ _ _ _ _ _
    (fun t ch o => AW m c (ix4 ⟨t.val / 3, by omega⟩ ⟨t.val % 3, by omega⟩ ch o)) (fun t ch r => Adn m c (ix4 ⟨t.val / 3, by omega⟩ ⟨t.val % 3, by omega⟩ ch r))
    ?_ ?_ ?_ ?_ ?_ ?_ ?_ ?_ ?_ ?_ ?_ ?_ ?_ ?_ ?_ ?_ ?_ ?_ R o)
  · exact s0 (AS m c) _
  · exact s1 (AS m c) _
  iterate 18
    · intro k o
      pointwise

end Cert.ReferenceIdeal.Hand

end
-- ==== Proof.Value.lean ====
/-
  The two programs' results agree: the kernel's formulas over the arrays that the host prepared are the reference's over the arguments.
-/
module

public import proofs.«01_k».proof.Defs
public import proofs.«01_k».proof.Proof.KernelIdeal.RunVal
public import proofs.«01_k».proof.Proof.KernelIdeal.HostVal
public import proofs.«01_k».proof.Proof.ReferenceIdeal.RunVal

@[expose] public section

set_option maxRecDepth 16384

noncomputable section

namespace Cert.Proof

open Idealize.ShloMosaic Idealize.ShloMosaic.TcCoe Idealize.ShloMosaic.Pointwise Idealize.SL.Sem Cert.Spec

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h0 in
theorem scale_eq : Cert.ReferenceIdeal.Hand.AS m' c = Cert.KernelIdeal.Hand.Val.AS m c :=
  Eq.trans h0 (Cert.KernelIdeal.Gen.V_main_arg0 m c).symm

include h0 h1 in
/-- The codes agree. -/
theorem codes_eq : Cert.ReferenceIdeal.Hand.cdF m' c = Cert.KernelIdeal.Hand.Val.cdF m c := by
  unfold Cert.ReferenceIdeal.Hand.cdF Cert.KernelIdeal.Hand.Val.cdF
  rw [scale_eq m m' c h0]
  funext R ch
  unfold Cert.ReferenceIdeal.Hand.cdR Cert.KernelIdeal.Hand.cdA
  by_cases h : R < 90112 ∧ ch < 640
  · rw [dif_pos h, dif_pos h]
    refine congrArg (codeS _) ?_
    exact (congrFun h1 _).trans (Cert.KernelIdeal.Hand.Host.x_apply m c ⟨R, h.1⟩ ⟨ch, h.2⟩).symm
  · rw [dif_neg h, dif_neg h]

include h0 h1 h2 h3 h4 h5 h6 in
/-- The results agree. -/
theorem results_eq : Cert.ReferenceIdeal.Hand.yF m' c = Cert.KernelIdeal.Hand.Val.yF m c := by
  funext R o
  unfold Cert.ReferenceIdeal.Hand.yF Cert.KernelIdeal.Hand.Val.yF Cert.KernelIdeal.Hand.yA
  rw [codes_eq m m' c h0 h1, scale_eq m m' c h0]
  have e2 : (fun (t : Fin 9) (ch : Fin 640) (o : Fin 1280) => Cert.ReferenceIdeal.Hand.AW m' c (ix4 ⟨t.val / 3, by omega⟩ ⟨t.val % 3, by omega⟩ ch o))
      = fun t ch o => Cert.KernelIdeal.Hand.Val.AW m c (ix2 ⟨t.val * 640 + ch.val, by omega⟩ o) := by
    funext t ch o
    exact (congrFun h2 _).trans (Cert.KernelIdeal.Hand.Host.w_apply m c t ch o).symm
  have e3 : (fun o : Fin 1280 => Cert.ReferenceIdeal.Hand.Aws m' c (ix1 o)) = fun o => Cert.KernelIdeal.Hand.Val.Aws m c (ix2 0 o) := by
    funext o
    exact (congrFun h3 _).trans (Cert.KernelIdeal.Hand.Host.ws_apply m c o).symm
  have e4 : (fun o : Fin 1280 => Cert.ReferenceIdeal.Hand.Ab m' c (ix1 o)) = fun o => Cert.KernelIdeal.Hand.Val.Ab m c (ix2 0 o) := by
    funext o
    exact (congrFun h4 _).trans (Cert.KernelIdeal.Hand.Host.b_apply m c o).symm
  have e5 : (fun (t : Fin 9) (ch : Fin 640) (r : Fin 20) => Cert.ReferenceIdeal.Hand.Adn m' c (ix4 ⟨t.val / 3, by omega⟩ ⟨t.val % 3, by omega⟩ ch r))
      = fun t ch r => Cert.KernelIdeal.Hand.Val.Adn m c (ix2 ch ⟨128 * (t.val / 6) + 20 * (t.val % 6) + r.val, by omega⟩) := by
    funext t ch r
    exact (congrFun h5 _).trans (Cert.KernelIdeal.Hand.Host.dn_apply m c t ch r).symm
  have e6 : (fun (r : Fin 20) (o : Fin 1280) => Cert.ReferenceIdeal.Hand.Aup m' c (ix2 r o)) = fun r o => Cert.KernelIdeal.Hand.Val.Aup m c (ix2 ⟨r.val, by omega⟩ o) := by
    funext r o
    exact (congrFun h6 _).trans (Cert.KernelIdeal.Hand.Host.up_apply m c r o).symm
  rw [e2, e3, e4, e5, e6]
end

theorem algebraic : Cert.algebraic_KernelIdeal_ReferenceIdeal := by
  intro m g m' g' _ ha
  refine ⟨fun c => Cert.KernelIdeal.Hand.Val.GY m c, fun c => Cert.KernelIdeal.Hand.Val.GQ m c, Cert.KernelIdeal.Hand.Val.run m g, ?_⟩
  refine (θ_run Cert.ReferenceIdeal.defs _ _).mono (fun r h c => ?_) (Cert.ReferenceIdeal.Value.run_blocks (F := Ideal) m' g')
  obtain ⟨a0, a1, a2, a3, a4, a5, a6⟩ := ha c
  obtain ⟨y, q, rest⟩ := h c
  refine ⟨y.trans ((Cert.ReferenceIdeal.Hand.arr7 m' c).trans ?_), q.trans ((Cert.ReferenceIdeal.Hand.arr8 m' c).trans ?_), rest⟩
  · rw [results_eq m m' c a0 a1 a2 a3 a4 a5 a6]; rfl
  · rw [codes_eq m m' c a0 a1]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.HFrame
public import proofs.«01_k».proof.Proof.KernelIdeal.HFrame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.Frame.frame m ρ, fun m ρ _ => Cert.KernelIdeal.Hand.Frame.frame m ρ,
  fun m ρ _ => Cert.ReferenceIdeal.Gen.frame m ρ, trivial, algebraic⟩

end Cert.Proof

end
